-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v110) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S6x1280x14336 : Shape := ⟨3, ![6, 1280, 14336]⟩
abbrev S14336x2048 : Shape := ⟨2, ![14336, 2048]⟩
abbrev S448x4096 : Shape := ⟨2, ![448, 4096]⟩
abbrev S14336x32 : Shape := ⟨2, ![14336, 32]⟩
abbrev S32x4096 : Shape := ⟨2, ![32, 4096]⟩
abbrev S14336x4096 : Shape := ⟨2, ![14336, 4096]⟩
abbrev S1024x256 : Shape := ⟨2, ![1024, 256]⟩
abbrev S32x512 : Shape := ⟨2, ![32, 512]⟩
abbrev S1024x32 : Shape := ⟨2, ![1024, 32]⟩
abbrev S1024x512 : Shape := ⟨2, ![1024, 512]⟩
abbrev S256x256 : Shape := ⟨2, ![256, 256]⟩
abbrev S256x128 : Shape := ⟨2, ![256, 128]⟩
abbrev S256x128x1 : Shape := ⟨3, ![256, 128, 1]⟩
abbrev S1024x128 : Shape := ⟨2, ![1024, 128]⟩
abbrev S1x512 : Shape := ⟨2, ![1, 512]⟩
abbrev S7680x14336 : Shape := ⟨2, ![7680, 14336]⟩
abbrev S7680x4096 : Shape := ⟨2, ![7680, 4096]⟩
abbrev S1280x2048 : Shape := ⟨2, ![1280, 2048]⟩
abbrev S2048x1024 : Shape := ⟨2, ![2048, 1024]⟩
abbrev S1280x1024 : Shape := ⟨2, ![1280, 1024]⟩
abbrev S6x1280x4096 : Shape := ⟨3, ![6, 1280, 4096]⟩

abbrev nBuf : Space → Nat
  | .hbm => 11
  | .vmem => 21
  | .smem => 0
  | _ => 0

abbrev bufTy : (tb : Table) → Fin (tcTables nBuf tb) → BufTy
  | .hbm, ⟨0, _⟩ => ⟨S6x1280x14336, .bf16⟩
  | .hbm, ⟨1, _⟩ => ⟨S14336x2048, .i8⟩
  | .hbm, ⟨2, _⟩ => ⟨S448x4096, .i8⟩
  | .hbm, ⟨3, _⟩ => ⟨S14336x32, .bf16⟩
  | .hbm, ⟨4, _⟩ => ⟨S32x4096, .bf16⟩
  | .hbm, ⟨5, _⟩ => ⟨S14336x32, .bf16⟩
  | .hbm, ⟨6, _⟩ => ⟨S32x4096, .bf16⟩
  | .hbm, ⟨7, _⟩ => ⟨S14336x4096, .bf16⟩
  | .hbm, ⟨8, _⟩ => ⟨S7680x14336, .bf16⟩
  | .hbm, ⟨9, _⟩ => ⟨S7680x4096, .bf16⟩
  | .hbm, ⟨10, _⟩ => ⟨S6x1280x4096, .bf16⟩
  | .local _ .vmem, ⟨0, _⟩ => ⟨S1024x256, .i8⟩
  | .local _ .vmem, ⟨1, _⟩ => ⟨S1024x256, .i8⟩
  | .local _ .vmem, ⟨2, _⟩ => ⟨S32x512, .i8⟩
  | .local _ .vmem, ⟨3, _⟩ => ⟨S32x512, .i8⟩
  | .local _ .vmem, ⟨4, _⟩ => ⟨S1024x32, .bf16⟩
  | .local _ .vmem, ⟨5, _⟩ => ⟨S1024x32, .bf16⟩
  | .local _ .vmem, ⟨6, _⟩ => ⟨S32x512, .bf16⟩
  | .local _ .vmem, ⟨7, _⟩ => ⟨S32x512, .bf16⟩
  | .local _ .vmem, ⟨8, _⟩ => ⟨S1024x32, .bf16⟩
  | .local _ .vmem, ⟨9, _⟩ => ⟨S1024x32, .bf16⟩
  | .local _ .vmem, ⟨10, _⟩ => ⟨S32x512, .bf16⟩
  | .local _ .vmem, ⟨11, _⟩ => ⟨S32x512, .bf16⟩
  | .local _ .vmem, ⟨12, _⟩ => ⟨S1024x512, .bf16⟩
  | .local _ .vmem, ⟨13, _⟩ => ⟨S1024x512, .bf16⟩
  | .local _ .vmem, ⟨14, _⟩ => ⟨S1280x2048, .bf16⟩
  | .local _ .vmem, ⟨15, _⟩ => ⟨S1280x2048, .bf16⟩
  | .local _ .vmem, ⟨16, _⟩ => ⟨S2048x1024, .bf16⟩
  | .local _ .vmem, ⟨17, _⟩ => ⟨S2048x1024, .bf16⟩
  | .local _ .vmem, ⟨18, _⟩ => ⟨S1280x1024, .bf16⟩
  | .local _ .vmem, ⟨19, _⟩ => ⟨S1280x1024, .bf16⟩
  | .local _ .vmem, ⟨20, _⟩ => ⟨S1280x1024, .f32⟩
  | _, _ => ⟨S6x1280x14336, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19

abbrev nD : Nat := 1
abbrev τ : Topo := Topo.v7x

variable {F : FTy → Type} [FloatOps F]

abbrev grid0 : Pipeline.Grid := ⟨2, ![14, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x256 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x512 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x32 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S32x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x32 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S32x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev grid1 : Pipeline.Grid := ⟨3, ![6, 4, 7], ![false, false, false]⟩

def k1_cond2 (i : grid1.Coords) : BitVec 1 :=
  let arg2 : BitVec 32 := BitVec.ofNat 32 (i 2).val
  let c6_i32 : BitVec 32 := 6#32
  let v13 : BitVec 1 := Scalar.cmpi .eq arg2 c6_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1280x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1280x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]
-- ==== ReferenceIdeal.lean ====
abbrev S6x1280x14336 : Shape := ⟨3, ![6, 1280, 14336]⟩
abbrev S14336x2048 : Shape := ⟨2, ![14336, 2048]⟩
abbrev S448x4096 : Shape := ⟨2, ![448, 4096]⟩
abbrev S14336x32 : Shape := ⟨2, ![14336, 32]⟩
abbrev S32x4096 : Shape := ⟨2, ![32, 4096]⟩
abbrev S_ : Shape := ⟨0, ![]⟩
abbrev S448x2048 : Shape := ⟨2, ![448, 2048]⟩
abbrev S448x32x2048 : Shape := ⟨3, ![448, 32, 2048]⟩
abbrev S32x2048 : Shape := ⟨2, ![32, 2048]⟩
abbrev S6x1280x2048 : Shape := ⟨3, ![6, 1280, 2048]⟩
abbrev S6x1280x2048x1 : Shape := ⟨4, ![6, 1280, 2048, 1]⟩
abbrev S6x1280x2048x2 : Shape := ⟨4, ![6, 1280, 2048, 2]⟩
abbrev S6x1280x4096 : Shape := ⟨3, ![6, 1280, 4096]⟩

abbrev nBuf : Space → Nat
  | .hbm => 176
  | .vmem => 0
  | .smem => 0
  | _ => 0

abbrev hbmTy0_0 (i : Nat) : BufTy := match i % 128 with
  | 0 => ⟨S6x1280x14336, .bf16⟩
  | 1 => ⟨S14336x2048, .i8⟩
  | 2 => ⟨S448x4096, .i8⟩
  | 3 => ⟨S14336x32, .bf16⟩
  | 4 => ⟨S32x4096, .bf16⟩
  | 5 => ⟨S14336x32, .bf16⟩
  | 6 => ⟨S32x4096, .bf16⟩
  | 7 => ⟨S14336x2048, .i32⟩
  | 8 => ⟨S_, .i32⟩
  | 9 => ⟨S14336x2048, .i32⟩
  | 10 => ⟨S14336x2048, .i32⟩
  | 11 => ⟨S_, .i32⟩
  | 12 => ⟨S14336x2048, .i32⟩
  | 13 => ⟨S14336x2048, .i32⟩
  | 14 => ⟨S_, .i32⟩
  | 15 => ⟨S14336x2048, .i32⟩
  | 16 => ⟨S14336x2048, .i32⟩
  | 17 => ⟨S_, .i32⟩
  | 18 => ⟨S14336x2048, .i32⟩
  | 19 => ⟨S14336x2048, .i1⟩
  | 20 => ⟨S_, .i32⟩
  | 21 => ⟨S14336x2048, .i32⟩
  | 22 => ⟨S14336x2048, .i32⟩
  | 23 => ⟨S_, .i32⟩
  | 24 => ⟨S14336x2048, .i32⟩
  | 25 => ⟨S14336x2048, .i1⟩
  | 26 => ⟨S_, .i32⟩
  | 27 => ⟨S14336x2048, .i32⟩
  | 28 => ⟨S14336x2048, .i32⟩
  | 29 => ⟨S_, .i32⟩
  | 30 => ⟨S14336x2048, .i32⟩
  | 31 => ⟨S14336x2048, .i1⟩
  | 32 => ⟨S_, .i32⟩
  | 33 => ⟨S14336x2048, .i32⟩
  | 34 => ⟨S14336x2048, .i32⟩
  | 35 => ⟨S_, .i32⟩
  | 36 => ⟨S14336x2048, .i32⟩
  | 37 => ⟨S14336x2048, .i1⟩
  | 38 => ⟨S_, .bf16⟩
  | 39 => ⟨S_, .bf16⟩
  | 40 => ⟨S14336x2048, .bf16⟩
  | 41 => ⟨S14336x2048, .bf16⟩
  | 42 => ⟨S14336x2048, .bf16⟩
  | 43 => ⟨S_, .bf16⟩
  | 44 => ⟨S_, .bf16⟩
  | 45 => ⟨S14336x2048, .bf16⟩
  | 46 => ⟨S14336x2048, .bf16⟩
  | 47 => ⟨S14336x2048, .bf16⟩
  | 48 => ⟨S14336x2048, .bf16⟩
  | 49 => ⟨S_, .bf16⟩
  | 50 => ⟨S_, .bf16⟩
  | 51 => ⟨S14336x2048, .bf16⟩
  | 52 => ⟨S14336x2048, .bf16⟩
  | 53 => ⟨S14336x2048, .bf16⟩
  | 54 => ⟨S_, .bf16⟩
  | 55 => ⟨S_, .bf16⟩
  | 56 => ⟨S14336x2048, .bf16⟩
  | 57 => ⟨S14336x2048, .bf16⟩
  | 58 => ⟨S14336x2048, .bf16⟩
  | 59 => ⟨S14336x2048, .bf16⟩
  | 60 => ⟨S14336x2048, .bf16⟩
  | 61 => ⟨S14336x2048, .bf16⟩
  | 62 => ⟨S14336x2048, .bf16⟩
  | 63 => ⟨S448x2048, .i8⟩
  | 64 => ⟨S448x2048, .i32⟩
  | 65 => ⟨S_, .i32⟩
  | 66 => ⟨S448x2048, .i32⟩
  | 67 => ⟨S448x2048, .i32⟩
  | 68 => ⟨S448x32x2048, .i32⟩
  | 69 => ⟨S14336x2048, .i32⟩
  | 70 => ⟨S14336x2048, .f32⟩
  | 71 => ⟨S_, .f32⟩
  | 72 => ⟨S14336x2048, .f32⟩
  | 73 => ⟨S14336x2048, .f32⟩
  | 74 => ⟨S14336x2048, .f32⟩
  | 75 => ⟨S14336x2048, .f32⟩
  | 76 => ⟨S14336x2048, .bf16⟩
  | 77 => ⟨S32x2048, .bf16⟩
  | 78 => ⟨S14336x2048, .f32⟩
  | 79 => ⟨S32x2048, .bf16⟩
  | 80 => ⟨S14336x2048, .f32⟩
  | 81 => ⟨S14336x2048, .f32⟩
  | 82 => ⟨S_, .f32⟩
  | 83 => ⟨S14336x2048, .f32⟩
  | 84 => ⟨S14336x2048, .f32⟩
  | 85 => ⟨S14336x2048, .f32⟩
  | 86 => ⟨S14336x2048, .f32⟩
  | 87 => ⟨S14336x2048, .bf16⟩
  | 88 => ⟨S6x1280x2048, .f32⟩
  | 89 => ⟨S14336x2048, .i32⟩
  | 90 => ⟨S_, .i32⟩
  | 91 => ⟨S14336x2048, .i32⟩
  | 92 => ⟨S14336x2048, .i32⟩
  | 93 => ⟨S_, .i32⟩
  | 94 => ⟨S14336x2048, .i32⟩
  | 95 => ⟨S14336x2048, .i32⟩
  | 96 => ⟨S_, .i32⟩
  | 97 => ⟨S14336x2048, .i32⟩
  | 98 => ⟨S14336x2048, .i32⟩
  | 99 => ⟨S_, .i32⟩
  | 100 => ⟨S14336x2048, .i32⟩
  | 101 => ⟨S14336x2048, .i1⟩
  | 102 => ⟨S_, .i32⟩
  | 103 => ⟨S14336x2048, .i32⟩
  | 104 => ⟨S14336x2048, .i32⟩
  | 105 => ⟨S_, .i32⟩
  | 106 => ⟨S14336x2048, .i32⟩
  | 107 => ⟨S14336x2048, .i1⟩
  | 108 => ⟨S_, .i32⟩
  | 109 => ⟨S14336x2048, .i32⟩
  | 110 => ⟨S14336x2048, .i32⟩
  | 111 => ⟨S_, .i32⟩
  | 112 => ⟨S14336x2048, .i32⟩
  | 113 => ⟨S14336x2048, .i1⟩
  | 114 => ⟨S_, .i32⟩
  | 115 => ⟨S14336x2048, .i32⟩
  | 116 => ⟨S14336x2048, .i32⟩
  | 117 => ⟨S_, .i32⟩
  | 118 => ⟨S14336x2048, .i32⟩
  | 119 => ⟨S14336x2048, .i1⟩
  | 120 => ⟨S_, .bf16⟩
  | 121 => ⟨S_, .bf16⟩
  | 122 => ⟨S14336x2048, .bf16⟩
  | 123 => ⟨S14336x2048, .bf16⟩
  | 124 => ⟨S14336x2048, .bf16⟩
  | 125 => ⟨S_, .bf16⟩
  | 126 => ⟨S_, .bf16⟩
  | 127 => ⟨S14336x2048, .bf16⟩
  | _ => ⟨S6x1280x14336, .bf16⟩

abbrev hbmTy0_1 (i : Nat) : BufTy := match i % 128 with
  | 0 => ⟨S14336x2048, .bf16⟩
  | 1 => ⟨S14336x2048, .bf16⟩
  | 2 => ⟨S14336x2048, .bf16⟩
  | 3 => ⟨S_, .bf16⟩
  | 4 => ⟨S_, .bf16⟩
  | 5 => ⟨S14336x2048, .bf16⟩
  | 6 => ⟨S14336x2048, .bf16⟩
  | 7 => ⟨S14336x2048, .bf16⟩
  | 8 => ⟨S_, .bf16⟩
  | 9 => ⟨S_, .bf16⟩
  | 10 => ⟨S14336x2048, .bf16⟩
  | 11 => ⟨S14336x2048, .bf16⟩
  | 12 => ⟨S14336x2048, .bf16⟩
  | 13 => ⟨S14336x2048, .bf16⟩
  | 14 => ⟨S14336x2048, .bf16⟩
  | 15 => ⟨S14336x2048, .bf16⟩
  | 16 => ⟨S14336x2048, .bf16⟩
  | 17 => ⟨S448x2048, .i8⟩
  | 18 => ⟨S448x2048, .i32⟩
  | 19 => ⟨S_, .i32⟩
  | 20 => ⟨S448x2048, .i32⟩
  | 21 => ⟨S448x2048, .i32⟩
  | 22 => ⟨S448x32x2048, .i32⟩
  | 23 => ⟨S14336x2048, .i32⟩
  | 24 => ⟨S14336x2048, .f32⟩
  | 25 => ⟨S_, .f32⟩
  | 26 => ⟨S14336x2048, .f32⟩
  | 27 => ⟨S14336x2048, .f32⟩
  | 28 => ⟨S14336x2048, .f32⟩
  | 29 => ⟨S14336x2048, .f32⟩
  | 30 => ⟨S14336x2048, .bf16⟩
  | 31 => ⟨S32x2048, .bf16⟩
  | 32 => ⟨S14336x2048, .f32⟩
  | 33 => ⟨S32x2048, .bf16⟩
  | 34 => ⟨S14336x2048, .f32⟩
  | 35 => ⟨S14336x2048, .f32⟩
  | 36 => ⟨S_, .f32⟩
  | 37 => ⟨S14336x2048, .f32⟩
  | 38 => ⟨S14336x2048, .f32⟩
  | 39 => ⟨S14336x2048, .f32⟩
  | 40 => ⟨S14336x2048, .f32⟩
  | 41 => ⟨S14336x2048, .bf16⟩
  | 42 => ⟨S6x1280x2048, .f32⟩
  | 43 => ⟨S6x1280x2048x1, .f32⟩
  | 44 => ⟨S6x1280x2048x1, .f32⟩
  | 45 => ⟨S6x1280x2048x2, .f32⟩
  | 46 => ⟨S6x1280x4096, .f32⟩
  | 47 => ⟨S6x1280x4096, .bf16⟩
  | _ => ⟨S6x1280x14336, .bf16⟩

abbrev hbmTy (i : Nat) : BufTy := match i / 128 with
  | 0 => hbmTy0_0 i
  | 1 => hbmTy0_1 i
  | _ => ⟨S6x1280x14336, .bf16⟩

abbrev bufTy : (tb : Table) → Fin (tcTables nBuf tb) → BufTy
  | .hbm, ⟨i, _⟩ => hbmTy i
  | _, _ => ⟨S6x1280x14336, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_c_1 : Ref sig .tc := ⟨.hbm, 14, rfl⟩
abbrev main_v5 : Ref sig .tc := ⟨.hbm, 15, rfl⟩
abbrev main_v6 : Ref sig .tc := ⟨.hbm, 16, rfl⟩
abbrev main_c_2 : Ref sig .tc := ⟨.hbm, 17, rfl⟩
abbrev main_v7 : Ref sig .tc := ⟨.hbm, 18, rfl⟩
abbrev main_v8 : Ref sig .tc := ⟨.hbm, 19, rfl⟩
abbrev main_c_3 : Ref sig .tc := ⟨.hbm, 20, rfl⟩
abbrev main_v9 : Ref sig .tc := ⟨.hbm, 21, rfl⟩
abbrev main_v10 : Ref sig .tc := ⟨.hbm, 22, rfl⟩
abbrev main_c_4 : Ref sig .tc := ⟨.hbm, 23, rfl⟩
abbrev main_v11 : Ref sig .tc := ⟨.hbm, 24, rfl⟩
abbrev main_v12 : Ref sig .tc := ⟨.hbm, 25, rfl⟩
abbrev main_c_5 : Ref sig .tc := ⟨.hbm, 26, rfl⟩
abbrev main_v13 : Ref sig .tc := ⟨.hbm, 27, rfl⟩
abbrev main_v14 : Ref sig .tc := ⟨.hbm, 28, rfl⟩
abbrev main_c_6 : Ref sig .tc := ⟨.hbm, 29, rfl⟩
abbrev main_v15 : Ref sig .tc := ⟨.hbm, 30, rfl⟩
abbrev main_v16 : Ref sig .tc := ⟨.hbm, 31, rfl⟩
abbrev main_c_7 : Ref sig .tc := ⟨.hbm, 32, rfl⟩
abbrev main_v17 : Ref sig .tc := ⟨.hbm, 33, rfl⟩
abbrev main_v18 : Ref sig .tc := ⟨.hbm, 34, rfl⟩
abbrev main_c_8 : Ref sig .tc := ⟨.hbm, 35, rfl⟩
abbrev main_v19 : Ref sig .tc := ⟨.hbm, 36, rfl⟩
abbrev main_v20 : Ref sig .tc := ⟨.hbm, 37, rfl⟩
abbrev main_cst : Ref sig .tc := ⟨.hbm, 38, rfl⟩
abbrev main_cst_9 : Ref sig .tc := ⟨.hbm, 39, rfl⟩
abbrev main_call0_v0 : Ref sig .tc := ⟨.hbm, 40, rfl⟩
abbrev main_call0_v1 : Ref sig .tc := ⟨.hbm, 41, rfl⟩
abbrev main_v21 : Ref sig .tc := ⟨.hbm, 42, rfl⟩
abbrev main_cst_10 : Ref sig .tc := ⟨.hbm, 43, rfl⟩
abbrev main_cst_11 : Ref sig .tc := ⟨.hbm, 44, rfl⟩
abbrev main_call1_v0 : Ref sig .tc := ⟨.hbm, 45, rfl⟩
abbrev main_call1_v1 : Ref sig .tc := ⟨.hbm, 46, rfl⟩
abbrev main_v22 : Ref sig .tc := ⟨.hbm, 47, rfl⟩
abbrev main_v23 : Ref sig .tc := ⟨.hbm, 48, rfl⟩
abbrev main_cst_12 : Ref sig .tc := ⟨.hbm, 49, rfl⟩
abbrev main_cst_13 : Ref sig .tc := ⟨.hbm, 50, rfl⟩
abbrev main_call3_v0 : Ref sig .tc := ⟨.hbm, 51, rfl⟩
abbrev main_call3_v1 : Ref sig .tc := ⟨.hbm, 52, rfl⟩
abbrev main_v24 : Ref sig .tc := ⟨.hbm, 53, rfl⟩
abbrev main_cst_14 : Ref sig .tc := ⟨.hbm, 54, rfl⟩
abbrev main_cst_15 : Ref sig .tc := ⟨.hbm, 55, rfl⟩
abbrev main_call4_v0 : Ref sig .tc := ⟨.hbm, 56, rfl⟩
abbrev main_call4_v1 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_c_16 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_cst_17 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_cst_18 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_c_19 : Ref sig .tc := ⟨.hbm, 90, rfl⟩
abbrev main_v54 : Ref sig .tc := ⟨.hbm, 91, rfl⟩
abbrev main_v55 : Ref sig .tc := ⟨.hbm, 92, rfl⟩
abbrev main_c_20 : Ref sig .tc := ⟨.hbm, 93, rfl⟩
abbrev main_v56 : Ref sig .tc := ⟨.hbm, 94, rfl⟩
abbrev main_v57 : Ref sig .tc := ⟨.hbm, 95, rfl⟩
abbrev main_c_21 : Ref sig .tc := ⟨.hbm, 96, rfl⟩
abbrev main_v58 : Ref sig .tc := ⟨.hbm, 97, rfl⟩
abbrev main_v59 : Ref sig .tc := ⟨.hbm, 98, rfl⟩
abbrev main_c_22 : Ref sig .tc := ⟨.hbm, 99, rfl⟩
abbrev main_v60 : Ref sig .tc := ⟨.hbm, 100, rfl⟩
abbrev main_v61 : Ref sig .tc := ⟨.hbm, 101, rfl⟩
abbrev main_c_23 : Ref sig .tc := ⟨.hbm, 102, rfl⟩
abbrev main_v62 : Ref sig .tc := ⟨.hbm, 103, rfl⟩
abbrev main_v63 : Ref sig .tc := ⟨.hbm, 104, rfl⟩
abbrev main_c_24 : Ref sig .tc := ⟨.hbm, 105, rfl⟩
abbrev main_v64 : Ref sig .tc := ⟨.hbm, 106, rfl⟩
abbrev main_v65 : Ref sig .tc := ⟨.hbm, 107, rfl⟩
abbrev main_c_25 : Ref sig .tc := ⟨.hbm, 108, rfl⟩
abbrev main_v66 : Ref sig .tc := ⟨.hbm, 109, rfl⟩
abbrev main_v67 : Ref sig .tc := ⟨.hbm, 110, rfl⟩
abbrev main_c_26 : Ref sig .tc := ⟨.hbm, 111, rfl⟩
abbrev main_v68 : Ref sig .tc := ⟨.hbm, 112, rfl⟩
abbrev main_v69 : Ref sig .tc := ⟨.hbm, 113, rfl⟩
abbrev main_c_27 : Ref sig .tc := ⟨.hbm, 114, rfl⟩
abbrev main_v70 : Ref sig .tc := ⟨.hbm, 115, rfl⟩
abbrev main_v71 : Ref sig .tc := ⟨.hbm, 116, rfl⟩
abbrev main_c_28 : Ref sig .tc := ⟨.hbm, 117, rfl⟩
abbrev main_v72 : Ref sig .tc := ⟨.hbm, 118, rfl⟩
abbrev main_v73 : Ref sig .tc := ⟨.hbm, 119, rfl⟩
abbrev main_cst_29 : Ref sig .tc := ⟨.hbm, 120, rfl⟩
abbrev main_cst_30 : Ref sig .tc := ⟨.hbm, 121, rfl⟩
abbrev main_call8_v0 : Ref sig .tc := ⟨.hbm, 122, rfl⟩
abbrev main_call8_v1 : Ref sig .tc := ⟨.hbm, 123, rfl⟩
abbrev main_v74 : Ref sig .tc := ⟨.hbm, 124, rfl⟩
abbrev main_cst_31 : Ref sig .tc := ⟨.hbm, 125, rfl⟩
abbrev main_cst_32 : Ref sig .tc := ⟨.hbm, 126, rfl⟩
abbrev main_call9_v0 : Ref sig .tc := ⟨.hbm, 127, rfl⟩
abbrev main_call9_v1 : Ref sig .tc := ⟨.hbm, 128, rfl⟩
abbrev main_v75 : Ref sig .tc := ⟨.hbm, 129, rfl⟩
abbrev main_v76 : Ref sig .tc := ⟨.hbm, 130, rfl⟩
abbrev main_cst_33 : Ref sig .tc := ⟨.hbm, 131, rfl⟩
abbrev main_cst_34 : Ref sig .tc := ⟨.hbm, 132, rfl⟩
abbrev main_call11_v0 : Ref sig .tc := ⟨.hbm, 133, rfl⟩
abbrev main_call11_v1 : Ref sig .tc := ⟨.hbm, 134, rfl⟩
abbrev main_v77 : Ref sig .tc := ⟨.hbm, 135, rfl⟩
abbrev main_cst_35 : Ref sig .tc := ⟨.hbm, 136, rfl⟩
abbrev main_cst_36 : Ref sig .tc := ⟨.hbm, 137, rfl⟩
abbrev main_call12_v0 : Ref sig .tc := ⟨.hbm, 138, rfl⟩
abbrev main_call12_v1 : Ref sig .tc := ⟨.hbm, 139, rfl⟩
abbrev main_v78 : Ref sig .tc := ⟨.hbm, 140, rfl⟩
abbrev main_v79 : Ref sig .tc := ⟨.hbm, 141, rfl⟩
abbrev main_v80 : Ref sig .tc := ⟨.hbm, 142, rfl⟩
abbrev main_v81 : Ref sig .tc := ⟨.hbm, 143, rfl⟩
abbrev main_v82 : Ref sig .tc := ⟨.hbm, 144, rfl⟩
abbrev main_v83 : Ref sig .tc := ⟨.hbm, 145, rfl⟩
abbrev main_v84 : Ref sig .tc := ⟨.hbm, 146, rfl⟩
abbrev main_c_37 : Ref sig .tc := ⟨.hbm, 147, rfl⟩
abbrev main_v85 : Ref sig .tc := ⟨.hbm, 148, rfl⟩
abbrev main_v86 : Ref sig .tc := ⟨.hbm, 149, rfl⟩
abbrev main_v87 : Ref sig .tc := ⟨.hbm, 150, rfl⟩
abbrev main_v88 : Ref sig .tc := ⟨.hbm, 151, rfl⟩
abbrev main_v89 : Ref sig .tc := ⟨.hbm, 152, rfl⟩
abbrev main_cst_38 : Ref sig .tc := ⟨.hbm, 153, rfl⟩
abbrev main_v90 : Ref sig .tc := ⟨.hbm, 154, rfl⟩
abbrev main_v91 : Ref sig .tc := ⟨.hbm, 155, rfl⟩
abbrev main_v92 : Ref sig .tc := ⟨.hbm, 156, rfl⟩
abbrev main_v93 : Ref sig .tc := ⟨.hbm, 157, rfl⟩
abbrev main_v94 : Ref sig .tc := ⟨.hbm, 158, rfl⟩
abbrev main_v95 : Ref sig .tc := ⟨.hbm, 159, rfl⟩
abbrev main_v96 : Ref sig .tc := ⟨.hbm, 160, rfl⟩
abbrev main_v97 : Ref sig .tc := ⟨.hbm, 161, rfl⟩
abbrev main_v98 : Ref sig .tc := ⟨.hbm, 162, rfl⟩
abbrev main_v99 : Ref sig .tc := ⟨.hbm, 163, rfl⟩
abbrev main_cst_39 : Ref sig .tc := ⟨.hbm, 164, rfl⟩
abbrev main_v100 : Ref sig .tc := ⟨.hbm, 165, rfl⟩
abbrev main_v101 : Ref sig .tc := ⟨.hbm, 166, rfl⟩
abbrev main_v102 : Ref sig .tc := ⟨.hbm, 167, rfl⟩
abbrev main_v103 : Ref sig .tc := ⟨.hbm, 168, rfl⟩
abbrev main_v104 : Ref sig .tc := ⟨.hbm, 169, rfl⟩
abbrev main_v105 : Ref sig .tc := ⟨.hbm, 170, rfl⟩
abbrev main_v106 : Ref sig .tc := ⟨.hbm, 171, rfl⟩
abbrev main_v107 : Ref sig .tc := ⟨.hbm, 172, rfl⟩
abbrev main_v108 : Ref sig .tc := ⟨.hbm, 173, rfl⟩
abbrev main_v109 : Ref sig .tc := ⟨.hbm, 174, rfl⟩
abbrev main_v110 : Ref sig .tc := ⟨.hbm, 175, rfl⟩

abbrev nD : Nat := 1
abbrev τ : Topo := Topo.v7x

variable {F : FTy → Type} [FloatOps F]
-- ==== Proof.K.Weight.lean ====
/- The first pallas_call (the weight): what its body leaves in the weight block, the body's triple, and the
   pipeline's proof data at any contents `V` of the buffers on entry. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel.Gen
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when a region is entered: the parameter every region's half is stated at, which
-- the run instantiates per region
variable (V : (c : Dev nD) → (b : Ref sig .tc) → Buf (Elt F) ((c : Thread nD τ).loc b))

/-! # REGION 0 of @main: custom_call 0, `cc0_loha_weight` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S1024x256 := Rect.unit (s := S1024x256) ![0, 0] S1024x256.size inb_S1024x256_S1024x256_0_0
abbrev r0_1 : Rect S32x512 := Rect.unit (s := S32x512) ![0, 0] S32x512.size inb_S32x512_S32x512_0_0
abbrev r0_2 : Rect S1024x32 := Rect.unit (s := S1024x32) ![0, 0] S1024x32.size inb_S1024x32_S1024x32_0_0
abbrev r0_3 : Rect S1024x512 := Rect.unit (s := S1024x512) ![0, 0] S1024x512.size inb_S1024x512_S1024x512_0_0

/-! ## What the body leaves in each output window's buffer -/

/-! ### Values of the body that the stores' payloads, spelt out, would write more than once

    Each is a vector the body binds (often a part call's result), stated over the input windows' blocks and
    numbered on from the skeleton's payload functions (`k0_pay59` …, after `k0_pay58`), so that
    `out0_W` and the values after it name it instead of spelling it out ; the comment after each is the printed function's
    name for the value (a count appended where that name is bound again). -/

def k0_pay59 (x0 : Vec F S1024x256 .i8) (x1 : Vec F S32x512 .i8) (x2 : Vec F S1024x32 .bf16) (x3 : Vec F S32x512 .bf16) (x4 : Vec F S1024x32 .bf16) (x5 : Vec F S32x512 .bf16) : IVec S256x128 32 :=
  iota .tc S256x128 32 [1] iota_S256x128_d1_w32 -- `v4`
def k0_pay60 (x0 : Vec F S1024x256 .i8) (x1 : Vec F S32x512 .i8) (x2 : Vec F S1024x32 .bf16) (x3 : Vec F S32x512 .bf16) (x4 : Vec F S1024x32 .bf16) (x5 : Vec F S32x512 .bf16) : IVec S32x512 32 :=
  k0_pay6 (View.ld x1 r0_1) -- `v2`
def k0_pay61 (x0 : Vec F S1024x256 .i8) (x1 : Vec F S32x512 .i8) (x2 : Vec F S1024x32 .bf16) (x3 : Vec F S32x512 .bf16) (x4 : Vec F S1024x32 .bf16) (x5 : Vec F S32x512 .bf16) : IVec S256x256 32 :=
  k0_pay7 (View.ld x0 r0_0) -- `v3`
def k0_pay62 (x0 : Vec F S1024x256 .i8) (x1 : Vec F S32x512 .i8) (x2 : Vec F S1024x32 .bf16) (x3 : Vec F S32x512 .bf16) (x4 : Vec F S1024x32 .bf16) (x5 : Vec F S32x512 .bf16) : IVec S256x128 32 :=
  k0_pay8 -- `v11`
def k0_pay63 (x0 : Vec F S1024x256 .i8) (x1 : Vec F S32x512 .i8) (x2 : Vec F S1024x32 .bf16) (x3 : Vec F S32x512 .bf16) (x4 : Vec F S1024x32 .bf16) (x5 : Vec F S32x512 .bf16) : FVec F S1024x128 .fp8e4m3 :=
  k0_pay9 (View.ld x0 r0_0) -- `v33`
def k0_pay64 (x0 : Vec F S1024x256 .i8) (x1 : Vec F S32x512 .i8) (x2 : Vec F S1024x32 .bf16) (x3 : Vec F S32x512 .bf16) (x4 : Vec F S1024x32 .bf16) (x5 : Vec F S32x512 .bf16) : FVec F S1024x128 .fp8e4m3 :=
  k0_pay13 (F := F) (k0_pay62 x0 x1 x2 x3 x4 x5) (k0_pay10 (View.ld x0 r0_0)) k0_pay11 k0_pay12 -- `v55`
def k0_pay65 (x0 : Vec F S1024x256 .i8) (x1 : Vec F S32x512 .i8) (x2 : Vec F S1024x32 .bf16) (x3 : Vec F S32x512 .bf16) (x4 : Vec F S1024x32 .bf16) (x5 : Vec F S32x512 .bf16) : FVec F S1024x128 .fp8e4m3 :=
  k0_pay14 (F := F) (k0_pay61 x0 x1 x2 x3 x4 x5) (k0_pay59 x0 x1 x2 x3 x4 x5) (k0_pay62 x0 x1 x2 x3 x4 x5) -- `v77`
def k0_pay66 (x0 : Vec F S1024x256 .i8) (x1 : Vec F S32x512 .i8) (x2 : Vec F S1024x32 .bf16) (x3 : Vec F S32x512 .bf16) (x4 : Vec F S1024x32 .bf16) (x5 : Vec F S32x512 .bf16) : IVec S256x128 32 :=
  k0_pay15 (k0_pay61 x0 x1 x2 x3 x4 x5) -- `v78`
def k0_pay67 (x0 : Vec F S1024x256 .i8) (x1 : Vec F S32x512 .i8) (x2 : Vec F S1024x32 .bf16) (x3 : Vec F S32x512 .bf16) (x4 : Vec F S1024x32 .bf16) (x5 : Vec F S32x512 .bf16) : IVec S256x128 32 :=
  k0_pay16 (k0_pay59 x0 x1 x2 x3 x4 x5) -- `v82`
def k0_pay68 (x0 : Vec F S1024x256 .i8) (x1 : Vec F S32x512 .i8) (x2 : Vec F S1024x32 .bf16) (x3 : Vec F S32x512 .bf16) (x4 : Vec F S1024x32 .bf16) (x5 : Vec F S32x512 .bf16) : IVec S256x128 1 :=
  k0_pay17 (k0_pay59 x0 x1 x2 x3 x4 x5) -- `v84`
def k0_pay69 (x0 : Vec F S1024x256 .i8) (x1 : Vec F S32x512 .i8) (x2 : Vec F S1024x32 .bf16) (x3 : Vec F S32x512 .bf16) (x4 : Vec F S1024x32 .bf16) (x5 : Vec F S32x512 .bf16) : FVec F S1024x512 .f32 :=
  k0_pay18 (k0_pay62 x0 x1 x2 x3 x4 x5) (k0_pay63 x0 x1 x2 x3 x4 x5) (k0_pay64 x0 x1 x2 x3 x4 x5) (k0_pay65 x0 x1 x2 x3 x4 x5) (k0_pay66 x0 x1 x2 x3 x4 x5) (k0_pay67 x0 x1 x2 x3 x4 x5) (k0_pay68 x0 x1 x2 x3 x4 x5) 128#32 -- `v101`
def k0_pay70 (x0 : Vec F S1024x256 .i8) (x1 : Vec F S32x512 .i8) (x2 : Vec F S1024x32 .bf16) (x3 : Vec F S32x512 .bf16) (x4 : Vec F S1024x32 .bf16) (x5 : Vec F S32x512 .bf16) : FVec F S32x512 .f32 :=
  k0_pay21 (F := F) (k0_pay60 x0 x1 x2 x3 x4 x5) -- `v110`
def k0_pay71 (x0 : Vec F S1024x256 .i8) (x1 : Vec F S32x512 .i8) (x2 : Vec F S1024x32 .bf16) (x3 : Vec F S32x512 .bf16) (x4 : Vec F S1024x32 .bf16) (x5 : Vec F S32x512 .bf16) : FVec F S32x512 .f32 :=
  k0_pay22 (F := F) (k0_pay60 x0 x1 x2 x3 x4 x5) -- `v116`

/-- Window 6's staging buffer after the body, from the input windows' blocks: its 1 store as pieces, LAST
    FIRST (Lib/Pipeline/FrameBody.lean `View.canon`; the payloads are the skeleton's and the values stated above). -/
def out0_6 (x0 : Vec F S1024x256 .i8) (x1 : Vec F S32x512 .i8) (x2 : Vec F S1024x32 .bf16) (x3 : Vec F S32x512 .bf16) (x4 : Vec F S1024x32 .bf16) (x5 : Vec F S32x512 .bf16) : Vec F S1024x512 .bf16 :=
  View.canon [⟨r0_3, k0_pay5 (concatenate S1024x512 0 [⟨S32x512, (k0_pay23 (k0_pay60 x0 x1 x2 x3 x4 x5) (k0_pay62 x0 x1 x2 x3 x4 x5) (k0_pay63 x0 x1 x2 x3 x4 x5) (k0_pay64 x0 x1 x2 x3 x4 x5) (k0_pay65 x0 x1 x2 x3 x4 x5) (k0_pay66 x0 x1 x2 x3 x4 x5) (k0_pay67 x0 x1 x2 x3 x4 x5) (k0_pay68 x0 x1 x2 x3 x4 x5) 128#32)⟩, ⟨S32x512, (k0_pay24 (k0_pay60 x0 x1 x2 x3 x4 x5) (k0_pay62 x0 x1 x2 x3 x4 x5) (k0_pay63 x0 x1 x2 x3 x4 x5) (k0_pay64 x0 x1 x2 x3 x4 x5) (k0_pay65 x0 x1 x2 x3 x4 x5) (k0_pay66 x0 x1 x2 x3 x4 x5) (k0_pay67 x0 x1 x2 x3 x4 x5) (k0_pay68 x0 x1 x2 x3 x4 x5) 128#32)⟩, ⟨S32x512, (k0_pay27 (k0_pay25 (k0_pay60 x0 x1 x2 x3 x4 x5) (k0_pay62 x0 x1 x2 x3 x4 x5) (k0_pay63 x0 x1 x2 x3 x4 x5) (k0_pay64 x0 x1 x2 x3 x4 x5) (k0_pay65 x0 x1 x2 x3 x4 x5) (k0_pay66 x0 x1 x2 x3 x4 x5) (k0_pay67 x0 x1 x2 x3 x4 x5) (k0_pay68 x0 x1 x2 x3 x4 x5) 128#32) (k0_pay26 (F := F) (k0_pay60 x0 x1 x2 x3 x4 x5)))⟩, ⟨S32x512, (k0_pay28 (k0_pay69 x0 x1 x2 x3 x4 x5) (k0_pay70 x0 x1 x2 x3 x4 x5) (k0_pay71 x0 x1 x2 x3 x4 x5))⟩, ⟨S32x512, (k0_pay29 (k0_pay69 x0 x1 x2 x3 x4 x5) (k0_pay70 x0 x1 x2 x3 x4 x5) (k0_pay71 x0 x1 x2 x3 x4 x5))⟩, ⟨S32x512, (k0_pay30 (k0_pay69 x0 x1 x2 x3 x4 x5) (k0_pay70 x0 x1 x2 x3 x4 x5) (k0_pay71 x0 x1 x2 x3 x4 x5))⟩, ⟨S32x512, (k0_pay31 (k0_pay69 x0 x1 x2 x3 x4 x5) (k0_pay70 x0 x1 x2 x3 x4 x5) (k0_pay71 x0 x1 x2 x3 x4 x5))⟩, ⟨S32x512, (k0_pay32 (k0_pay69 x0 x1 x2 x3 x4 x5) (k0_pay70 x0 x1 x2 x3 x4 x5) (k0_pay71 x0 x1 x2 x3 x4 x5))⟩, ⟨S32x512, (k0_pay33 (k0_pay69 x0 x1 x2 x3 x4 x5) (k0_pay70 x0 x1 x2 x3 x4 x5) (k0_pay71 x0 x1 x2 x3 x4 x5))⟩, ⟨S32x512, (k0_pay34 (k0_pay69 x0 x1 x2 x3 x4 x5) (k0_pay70 x0 x1 x2 x3 x4 x5) (k0_pay71 x0 x1 x2 x3 x4 x5))⟩, ⟨S32x512, (k0_pay35 (k0_pay69 x0 x1 x2 x3 x4 x5) (k0_pay70 x0 x1 x2 x3 x4 x5) (k0_pay71 x0 x1 x2 x3 x4 x5))⟩, ⟨S32x512, (k0_pay38 (k0_pay71 x0 x1 x2 x3 x4 x5) (k0_pay36 (k0_pay69 x0 x1 x2 x3 x4 x5)) (k0_pay37 (k0_pay70 x0 x1 x2 x3 x4 x5)))⟩, ⟨S32x512, (k0_pay39 (k0_pay69 x0 x1 x2 x3 x4 x5) (k0_pay70 x0 x1 x2 x3 x4 x5) (k0_pay71 x0 x1 x2 x3 x4 x5))⟩, ⟨S32x512, (k0_pay40 (k0_pay69 x0 x1 x2 x3 x4 x5) (k0_pay70 x0 x1 x2 x3 x4 x5) (k0_pay71 x0 x1 x2 x3 x4 x5))⟩, ⟨S32x512, (k0_pay41 (k0_pay69 x0 x1 x2 x3 x4 x5) (k0_pay70 x0 x1 x2 x3 x4 x5) (k0_pay71 x0 x1 x2 x3 x4 x5))⟩, ⟨S32x512, (k0_pay42 (k0_pay69 x0 x1 x2 x3 x4 x5) (k0_pay70 x0 x1 x2 x3 x4 x5) (k0_pay71 x0 x1 x2 x3 x4 x5))⟩, ⟨S32x512, (k0_pay43 (k0_pay69 x0 x1 x2 x3 x4 x5) (k0_pay70 x0 x1 x2 x3 x4 x5) (k0_pay71 x0 x1 x2 x3 x4 x5))⟩, ⟨S32x512, (k0_pay44 (k0_pay69 x0 x1 x2 x3 x4 x5) (k0_pay70 x0 x1 x2 x3 x4 x5) (k0_pay71 x0 x1 x2 x3 x4 x5))⟩, ⟨S32x512, (k0_pay45 (k0_pay69 x0 x1 x2 x3 x4 x5) (k0_pay70 x0 x1 x2 x3 x4 x5) (k0_pay71 x0 x1 x2 x3 x4 x5))⟩, ⟨S32x512, (k0_pay48 (k0_pay46 (k0_pay69 x0 x1 x2 x3 x4 x5) (k0_pay70 x0 x1 x2 x3 x4 x5)) (k0_pay47 (k0_pay71 x0 x1 x2 x3 x4 x5)))⟩, ⟨S32x512, (k0_pay49 (k0_pay69 x0 x1 x2 x3 x4 x5) (k0_pay70 x0 x1 x2 x3 x4 x5) (k0_pay71 x0 x1 x2 x3 x4 x5))⟩, ⟨S32x512, (k0_pay50 (k0_pay69 x0 x1 x2 x3 x4 x5) (k0_pay70 x0 x1 x2 x3 x4 x5) (k0_pay71 x0 x1 x2 x3 x4 x5))⟩, ⟨S32x512, (k0_pay51 (k0_pay69 x0 x1 x2 x3 x4 x5) (k0_pay70 x0 x1 x2 x3 x4 x5) (k0_pay71 x0 x1 x2 x3 x4 x5))⟩, ⟨S32x512, (k0_pay52 (k0_pay69 x0 x1 x2 x3 x4 x5) (k0_pay70 x0 x1 x2 x3 x4 x5) (k0_pay71 x0 x1 x2 x3 x4 x5))⟩, ⟨S32x512, (k0_pay53 (k0_pay69 x0 x1 x2 x3 x4 x5) (k0_pay70 x0 x1 x2 x3 x4 x5) (k0_pay71 x0 x1 x2 x3 x4 x5))⟩, ⟨S32x512, (k0_pay54 (k0_pay69 x0 x1 x2 x3 x4 x5) (k0_pay70 x0 x1 x2 x3 x4 x5) (k0_pay71 x0 x1 x2 x3 x4 x5))⟩, ⟨S32x512, (k0_pay55 (k0_pay69 x0 x1 x2 x3 x4 x5) (k0_pay70 x0 x1 x2 x3 x4 x5) (k0_pay71 x0 x1 x2 x3 x4 x5))⟩, ⟨S32x512, (k0_pay56 (k0_pay69 x0 x1 x2 x3 x4 x5) (k0_pay70 x0 x1 x2 x3 x4 x5) (k0_pay71 x0 x1 x2 x3 x4 x5))⟩, ⟨S32x512, (k0_pay1 (k0_pay71 x0 x1 x2 x3 x4 x5) (k0_pay57 (k0_pay69 x0 x1 x2 x3 x4 x5)) (k0_pay58 (k0_pay70 x0 x1 x2 x3 x4 x5)))⟩, ⟨S32x512, (k0_pay2 (k0_pay69 x0 x1 x2 x3 x4 x5) (k0_pay70 x0 x1 x2 x3 x4 x5) (k0_pay71 x0 x1 x2 x3 x4 x5))⟩, ⟨S32x512, (k0_pay3 (k0_pay69 x0 x1 x2 x3 x4 x5) (k0_pay70 x0 x1 x2 x3 x4 x5) (k0_pay71 x0 x1 x2 x3 x4 x5))⟩, ⟨S32x512, (k0_pay4 (k0_pay69 x0 x1 x2 x3 x4 x5) (k0_pay70 x0 x1 x2 x3 x4 x5) (k0_pay71 x0 x1 x2 x3 x4 x5))⟩] concatenates_S32x512_S32x512_S32x512_S32x512_S32x512_S32x512_S32x512_S32x512_S32x512_S32x512_S32x512_S32x512_S32x512_S32x512_S32x512_S32x512_S32x512_S32x512_S32x512_S32x512_S32x512_S32x512_S32x512_S32x512_S32x512_S32x512_S32x512_S32x512_S32x512_S32x512_S32x512_S32x512_S1024x512_d0) (View.ld x2 r0_2) (View.ld x3 r0_1) (View.ld x4 r0_2) (View.ld x5 r0_1)⟩]

/-- Its stores tile the buffer (checked by evaluation), so they cover it. -/
theorem cover0_6 (p0 : Vec F S1024x512 .bf16) (y : S1024x512.Idx) :
    ∃ pc ∈ ([⟨r0_3, p0⟩] : List (View.Piece (Elt F) S1024x512 .bf16)), y ∈ pc.1.set :=
  View.cover_of_tiled [⟨r0_3, p0⟩] S1024x512.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel0 (c : Dev nD) (E : Set ℕ) (i : grid0.Coords) (arg2 : Memref sig .tc .vmem S1024x256 .i8) (harg2 : arg2.IsWhole) (arg3 : Memref sig .tc .vmem S32x512 .i8) (harg3 : arg3.IsWhole) (arg4 : Memref sig .tc .vmem S1024x32 .bf16) (harg4 : arg4.IsWhole) (arg5 : Memref sig .tc .vmem S32x512 .bf16) (harg5 : arg5.IsWhole) (arg6 : Memref sig .tc .vmem S1024x32 .bf16) (harg6 : arg6.IsWhole) (arg7 : Memref sig .tc .vmem S32x512 .bf16) (harg7 : arg7.IsWhole) (arg8 : Memref sig .tc .vmem S1024x512 .bf16) (harg8 : arg8.IsWhole)
    (x0 : Vec F S1024x256 .i8) (x1 : Vec F S32x512 .i8) (x2 : Vec F S1024x32 .bf16) (x3 : Vec F S32x512 .bf16) (x4 : Vec F S1024x32 .bf16) (x5 : Vec F S32x512 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (out0_6 x0 x1 x2 x3 x4 x5)) -∗ K ⟨⟩))
      ⊢ wp frame (wpE (defs₀ (F := F)) Variants.none c none) E (cc0_loha_weight i arg2 harg2 arg3 harg3 arg4 harg4 arg5 harg5 arg6 harg6 arg7 harg7 arg8 harg8) K := by
  simp only [cc0_loha_weight_eq_skeleton]; unfold cc0_loha_weight_skel
  simp only [k0_part1_eq_skeleton, k0_part2_eq_skeleton, k0_part3_eq_skeleton, k0_part4_eq_skeleton, k0_part5_eq_skeleton, k0_part6_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  refine (View.read_writes_eq_canon _ _ _ (cover0_6 _)).trans ?_
  rfl

/-! ## The pipeline's proof data -/

/-- The proof data of pipeline 0 on core `c`: the arrays as the region finds them (`V`); after the body at
    point `t` each input's buffer at its block and each output's at `out0_W` of the input blocks; the invariant the
    class's (Lib/Pipeline/Frame.lean `ΦA`: the scoped rest and the generator register, untouched); nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`, never `rfl`: Lib/Pipeline.lean `Dat`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) (iblk0 V c 5 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ (grid0.coords t) _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Regions

end Cert.Kernel.Whole

end
-- ==== Proof.K.MatRuns.lean ====
/- The second pallas_call (the matmul): its windows' blocks, its branch conditions in closed form, its scratch
   accumulator, and what it holds beside its windows. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel.Gen
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's `scf.if` 0 (`k1_h1`), from the grid coordinates (the skeleton's scalar
    chain substituted). -/
abbrev cond1_0 (i : grid1.Coords) : Prop := (Scalar.cmpi .ne (Scalar.extui (Scalar.cmpi .eq (BitVec.ofNat 32 (i 2).val) 0#32)) 0#32) = 1#1
/-- It holds at the points ≡ 0 (mod 7) — by arithmetic of the point. -/
theorem hcond1_0 : ∀ t : Fin cfg1.N, cond1_0 (grid1.coords t) ↔ t.val % 7 = 0 :=
  (fun t => by
    have ht : t.val < 168 := Nat.lt_of_lt_of_eq t.isLt N_1
    have e0 : (grid1.coords t 0).val = t.val / 28 % 6 := Pipeline.Grid.coords_val t 0 (by decide) rfl
    have e1 : (grid1.coords t 1).val = t.val / 7 % 4 := Pipeline.Grid.coords_val t 1 (by decide) rfl
    have e2 : (grid1.coords t 2).val = t.val / 1 % 7 := Pipeline.Grid.coords_val t 2 (by decide) rfl
    simp only [cond1_0, e0, e1, e2]
    word_cmp
   : ∀ t : Fin grid1.N, cond1_0 (grid1.coords t) ↔ t.val % 7 = 0)

/-- The condition of the body's `scf.if` 1 (`k1_h2`), from the grid coordinates (the skeleton's scalar
    chain substituted). -/
abbrev cond1_1 (i : grid1.Coords) : Prop := k1_cond2 i = 1#1
/-- It holds at the points ≡ 6 (mod 7) — by arithmetic of the point. -/
theorem hcond1_1 : ∀ t : Fin cfg1.N, cond1_1 (grid1.coords t) ↔ t.val % 7 = 6 :=
  (fun t => by
    have ht : t.val < 168 := Nat.lt_of_lt_of_eq t.isLt N_1
    have e0 : (grid1.coords t 0).val = t.val / 28 % 6 := Pipeline.Grid.coords_val t 0 (by decide) rfl
    have e1 : (grid1.coords t 1).val = t.val / 7 % 4 := Pipeline.Grid.coords_val t 1 (by decide) rfl
    have e2 : (grid1.coords t 2).val = t.val / 1 % 7 := Pipeline.Grid.coords_val t 2 (by decide) rfl
    simp only [cond1_1, k1_cond2, e0, e1, e2]
    word_cmp
   : ∀ t : Fin grid1.N, cond1_1 (grid1.coords t) ↔ t.val % 7 = 6)

/-! ## Where the windows are idle (the printed configuration's table `Cfg.idle`) -/

/-- Window 0 is never idle (an input). -/
theorem liveAt1_0 : ∀ t : Fin cfg1.N, cfg1.idle 0 (grid1.coords t) = false := fun _ => rfl
/-- Window 1 is never idle (an input). -/
theorem liveAt1_1 : ∀ t : Fin cfg1.N, cfg1.idle 1 (grid1.coords t) = false := fun _ => rfl
/-- At the points of case A the printed configuration (`Cfg.idle`) calls output 2 idle: the case stores nothing into it. -/
theorem idleAt1_2_A : ∀ t : Fin cfg1.N, cond1_0 (grid1.coords t) → ¬cond1_1 (grid1.coords t) → cfg1.idle 2 (grid1.coords t) = true := by decide +kernel
/-- At the points of case A the pipeline does not write output 2's block back. -/
theorem noFlush1_2_A : ∀ t : Fin cfg1.N, cond1_0 (grid1.coords t) → ¬cond1_1 (grid1.coords t) → (cfg1.win 2).flush t = false := by decide +kernel
/-- At the points of case B the printed configuration (`Cfg.idle`) calls output 2 idle: the case stores nothing into it. -/
theorem idleAt1_2_B : ∀ t : Fin cfg1.N, ¬cond1_0 (grid1.coords t) → ¬cond1_1 (grid1.coords t) → cfg1.idle 2 (grid1.coords t) = true := by decide +kernel
/-- At the points of case B the pipeline does not write output 2's block back. -/
theorem noFlush1_2_B : ∀ t : Fin cfg1.N, ¬cond1_0 (grid1.coords t) → ¬cond1_1 (grid1.coords t) → (cfg1.win 2).flush t = false := by decide +kernel
/-- At the points of case C the printed configuration (`Cfg.idle`) calls output 2 live: the case stores into it. -/
theorem liveAt1_2_C : ∀ t : Fin cfg1.N, ¬cond1_0 (grid1.coords t) → cond1_1 (grid1.coords t) → cfg1.idle 2 (grid1.coords t) = false := by decide +kernel

/-! ## The kernel body on any staging memrefs: a subtype the run finds -/

/-- One staging buffer of output window 2, through which its contents are stated (`View.read_writes_of_cover`: the
    choice does not matter). -/
abbrev VO1_2 : View sig .tc .vmem S1280x1024 .bf16 := (Memref.whole cc1_stg2_0 : Memref sig .tc .vmem S1280x1024 .bf16).view
/-- Each window's current staging memref at point `t`, spelled as the pipeline passes it (`bodyAt1`), and its wholeness. -/
abbrev ms1_0 (t : Fin cfg1.N) : Memref sig .tc .vmem S1280x2048 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1280x1024 .bf16 := win1_2.stage (cfg1.slots t 2)
abbrev hs1_2 (t : Fin cfg1.N) : (ms1_2 t).IsWhole := hstage1_2 ((cfg1.slots t 2).cast nbuf1_2)
/-- The scratch operands: whole scoped buffers of the kernel's own, passed beside the windows. -/
abbrev scM1_0 : Memref sig .tc .vmem S1280x1024 .f32 := Memref.whole cc1_scratch0
/-- The scratch `arg6` the kernel carries between points, as a view: what it holds is stated through it. -/
abbrev VS1_0 : View sig .tc .vmem S1280x1024 .f32 := scM1_0.view

/-- The staging buffers of the first call, which the second call leaves alone, each at some contents. -/
def otherStages (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f))

/-- What the call holds beside its windows before its first point: the accumulator at some contents, the first call's
    staging buffers, the generator register. -/
def Phi0 (c : Dev nD) : sProp 𝕄 :=
  iprop(iprop((∃ d, owns (c : Thread nD τ) scM1_0 fullShare d)) ∗ (otherStages c ∗ (∃ r, prngReg c r)))

theorem PhiA1_eq (c : Dev nD) :
    (Phi0 c : sProp 𝕄)
      = iprop(iprop((∃ d, owns (c : Thread nD τ) scM1_0 fullShare d)) ∗ (otherStages c ∗ (∃ r, prngReg c r))) := rfl

/-- The region's scoped rest and the generator register make up `Phi0`. -/
theorem Phi0_of_scoped (c : Dev nD) :
    iprop(Pipeline.scopedRest spec1 c ∗ (∃ r, prngReg c r)) ⊢ (Phi0 c : sProp 𝕄) := by
  rw [scopedRest1_eq, PhiA1_eq]; unfold otherStages; simp only [scM1_0, owns_whole]
  iintro ⟨⟨H0, H1, H2, H3, H4, H5, H6, H7, H8, H9, H10, H11, H12, H13, H14⟩, Hg⟩
  isplitl [H14]; · iexact H14
  isplitr [Hg]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  iexact Hg

/-- And `Phi0` gives them back. -/
theorem scoped_of_Phi0 (c : Dev nD) :
    (Phi0 c : sProp 𝕄) ⊢ iprop(Pipeline.scopedRest spec1 c ∗ (∃ r, prngReg c r)) := by
  rw [scopedRest1_eq, PhiA1_eq]; unfold otherStages; simp only [scM1_0, owns_whole]
  iintro ⟨H14, ⟨H0, H1, H2, H3, H4, H5, H6, H7, H8, H9, H10, H11, H12, H13⟩, Hg⟩
  isplitr [Hg]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14
  iexact Hg

end Cert.Kernel.Whole

end
-- ==== Proof.K.MatRunA.lean ====
/- The matmul's body at the first k block of an output block. -/
module

public import proofs.«01_k».proof.Proof.K.MatRuns

@[expose] public section

-- membership in a rectangle of production extents (`View.cover_of_tiled`): the elaborator's structural look
-- recurses once per coordinate of the long axes
set_option maxRecDepth 16384

noncomputable section

namespace Cert.Kernel.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel.Gen
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- (the run's proof term is large: the definition's epilogue — `abstractNestedProofs` — walks it past the default budget)
set_option maxHeartbeats 1000000 in
/-- What the body's stores leave in each output's staging memref, as pieces (last first) IN CASE A (`scf.if` 0 taken, `scf.if` 1 not taken: points 0, 7, … 161: 24 of 168), WITH the
    proof that on whole staging memrefs — the inputs' at their contents, the outputs it leaves idle (2: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_A (c : Dev nD) (i : grid1.Coords) (arg3 : Memref sig .tc .vmem S1280x2048 .bf16) (harg3 : arg3.IsWhole) (arg4 : Memref sig .tc .vmem S2048x1024 .bf16) (harg4 : arg4.IsWhole) (arg5 : Memref sig .tc .vmem S1280x1024 .bf16) (harg5 : arg5.IsWhole) (arg6 : Memref sig .tc .vmem S1280x1024 .f32) (harg6 : arg6.IsWhole) (hc0 : cond1_0 i) (hc1 : ¬cond1_1 i)
    (x0 : Vec F S1280x2048 .bf16) (x1 : Vec F S2048x1024 .bf16) :
    Σ' (L2 : List (View.Piece (Elt F) S1280x1024 .bf16)), { LS0 : List (View.Piece (Elt F) S1280x1024 .f32) //
      ∀ (xi2 : Vec F S1280x1024 .bf16) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc1_loha_matmul i arg3 harg3 arg4 harg4 arg5 harg5 arg6 harg6) K } := by
  refine ⟨[], ?_, fun xi2 E K => ?run⟩
  case run =>
    simp only [cc1_loha_matmul_eq_skeleton]; unfold cc1_loha_matmul_skel
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1; obtain rfl := harg5.eq_unread hf2
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.Kernel.Whole

end
-- ==== Proof.K.MatRunB.lean ====
/- The matmul's body at a k block that is neither first nor last. -/
module

public import proofs.«01_k».proof.Proof.K.MatRunA

@[expose] public section

-- membership in a rectangle of production extents (`View.cover_of_tiled`): the elaborator's structural look
-- recurses once per coordinate of the long axes
set_option maxRecDepth 16384

noncomputable section

namespace Cert.Kernel.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel.Gen
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- (the run's proof term is large: the definition's epilogue — `abstractNestedProofs` — walks it past the default budget)
set_option maxHeartbeats 1000000 in
/-- What the body's stores leave in each output's staging memref, as pieces (last first) IN CASE B (`scf.if` 0 not taken, `scf.if` 1 not taken: points 1, 2, … 166: 120 of 168), WITH the
    proof that on whole staging memrefs — the inputs' at their contents, the outputs it leaves idle (2: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_B (c : Dev nD) (i : grid1.Coords) (arg3 : Memref sig .tc .vmem S1280x2048 .bf16) (harg3 : arg3.IsWhole) (arg4 : Memref sig .tc .vmem S2048x1024 .bf16) (harg4 : arg4.IsWhole) (arg5 : Memref sig .tc .vmem S1280x1024 .bf16) (harg5 : arg5.IsWhole) (arg6 : Memref sig .tc .vmem S1280x1024 .f32) (harg6 : arg6.IsWhole) (hc0 : ¬cond1_0 i) (hc1 : ¬cond1_1 i)
    (x0 : Vec F S1280x2048 .bf16) (x1 : Vec F S2048x1024 .bf16) (xs0 : Vec F S1280x1024 .f32) :
    Σ' (L2 : List (View.Piece (Elt F) S1280x1024 .bf16)), { LS0 : List (View.Piece (Elt F) S1280x1024 .f32) //
      ∀ (xi2 : Vec F S1280x1024 .bf16) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs0
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc1_loha_matmul i arg3 harg3 arg4 harg4 arg5 harg5 arg6 harg6) K } := by
  refine ⟨[], ?_, fun xi2 E K => ?run⟩
  case run =>
    simp only [cc1_loha_matmul_eq_skeleton]; unfold cc1_loha_matmul_skel
    unfold owns
    iintro ⟨⟨%f0, %hf0, H0⟩, ⟨%f1, %hf1, H1⟩, ⟨%f2, %hf2, H2⟩, ⟨%fs0, %hfs0, HS0⟩, Hk⟩
    obtain rfl := harg3.eq_unread hf0; obtain rfl := harg4.eq_unread hf1; obtain rfl := harg5.eq_unread hf2; obtain rfl := harg6.eq_unread hfs0
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.Kernel.Whole

end
-- ==== Proof.K.MatRunC.lean ====
/- The matmul's body at the last k block of an output block. -/
module

public import proofs.«01_k».proof.Proof.K.MatRunB

@[expose] public section

-- membership in a rectangle of production extents (`View.cover_of_tiled`): the elaborator's structural look
-- recurses once per coordinate of the long axes
set_option maxRecDepth 16384

noncomputable section

namespace Cert.Kernel.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel.Gen
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- (the run's proof term is large: the definition's epilogue — `abstractNestedProofs` — walks it past the default budget)
set_option maxHeartbeats 1000000 in
/-- What the body's stores leave in each output's staging memref, as pieces (last first) IN CASE C (`scf.if` 0 not taken, `scf.if` 1 taken: points 6, 13, … 167: 24 of 168), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_C (c : Dev nD) (i : grid1.Coords) (arg3 : Memref sig .tc .vmem S1280x2048 .bf16) (harg3 : arg3.IsWhole) (arg4 : Memref sig .tc .vmem S2048x1024 .bf16) (harg4 : arg4.IsWhole) (arg5 : Memref sig .tc .vmem S1280x1024 .bf16) (harg5 : arg5.IsWhole) (arg6 : Memref sig .tc .vmem S1280x1024 .f32) (harg6 : arg6.IsWhole) (hc0 : ¬cond1_0 i) (hc1 : cond1_1 i)
    (x0 : Vec F S1280x2048 .bf16) (x1 : Vec F S2048x1024 .bf16) (xs0 : Vec F S1280x1024 .f32) :
    Σ' (L2 : List (View.Piece (Elt F) S1280x1024 .bf16)), { LS0 : List (View.Piece (Elt F) S1280x1024 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc1_loha_matmul i arg3 harg3 arg4 harg4 arg5 harg5 arg6 harg6) K } := by
  refine ⟨?_, ?_, fun E K => ?run⟩
  case run =>
    simp only [cc1_loha_matmul_eq_skeleton]; unfold cc1_loha_matmul_skel
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

end Cert.Kernel.Whole

end
-- ==== Proof.K.Mat.lean ====
/- The second pallas_call (the matmul): what its accumulator and its output block hold point by point, and the
   pipeline's proof data at any contents `V` of the buffers on entry. -/
module

public import proofs.«01_k».proof.Proof.K.MatRunC

@[expose] public section

-- membership in a rectangle of production extents (`View.cover_of_tiled`): the elaborator's structural look
-- recurses once per coordinate of the long axes
set_option maxRecDepth 16384

noncomputable section

namespace Cert.Kernel.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel.Gen
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-- Case A stores nothing into output 2 (the window is idle at its points and not written back there):
    no pieces — a placeholder (junk read back) that nothing consults, since at these points the window is neither
    written back nor read at the next point (Lib/Pipeline.lean "Idle points"). -/
def out1_A_2 (c : Dev nD) (i : grid1.Coords) (arg3 : Memref sig .tc .vmem S1280x2048 .bf16) (harg3 : arg3.IsWhole) (arg4 : Memref sig .tc .vmem S2048x1024 .bf16) (harg4 : arg4.IsWhole) (arg5 : Memref sig .tc .vmem S1280x1024 .bf16) (harg5 : arg5.IsWhole) (arg6 : Memref sig .tc .vmem S1280x1024 .f32) (harg6 : arg6.IsWhole) (hc0 : cond1_0 i) (hc1 : ¬cond1_1 i)
    (x0 : Vec F S1280x2048 .bf16) (x1 : Vec F S2048x1024 .bf16) : Vec F S1280x1024 .bf16 :=
  VO1_2.read (Elt F) (VO1_2.writes (Elt F) VO1_2.junk (kernelRun1_A c i arg3 harg3 arg4 harg4 arg5 harg5 arg6 harg6 hc0 hc1 x0 x1).1)

/-- Case A's pieces for scratch `arg6`, which the kernel carries between points, cover it: 2 pieces of `S1280x1024` tiling it (Lib/Ring.lean `Piece.tiledL`). -/
theorem scover1_A_0 (c : Dev nD) (i : grid1.Coords) (arg3 : Memref sig .tc .vmem S1280x2048 .bf16) (harg3 : arg3.IsWhole) (arg4 : Memref sig .tc .vmem S2048x1024 .bf16) (harg4 : arg4.IsWhole) (arg5 : Memref sig .tc .vmem S1280x1024 .bf16) (harg5 : arg5.IsWhole) (arg6 : Memref sig .tc .vmem S1280x1024 .f32) (harg6 : arg6.IsWhole) (hc0 : cond1_0 i) (hc1 : ¬cond1_1 i)
    (x0 : Vec F S1280x2048 .bf16) (x1 : Vec F S2048x1024 .bf16) (y : S1280x1024.Idx) :
    ∃ pc ∈ (kernelRun1_A c i arg3 harg3 arg4 harg4 arg5 harg5 arg6 harg6 hc0 hc1 x0 x1).2.1, y ∈ pc.1.set :=
  View.cover_of_tiledL (kernelRun1_A c i arg3 harg3 arg4 harg4 arg5 harg5 arg6 harg6 hc0 hc1 x0 x1).2.1 S1280x1024.size (by sl_kernel_rfl) y

/-- What case A leaves in scratch `arg6`: its pieces read back over junk. -/
def sout1_A_0 (c : Dev nD) (i : grid1.Coords) (arg3 : Memref sig .tc .vmem S1280x2048 .bf16) (harg3 : arg3.IsWhole) (arg4 : Memref sig .tc .vmem S2048x1024 .bf16) (harg4 : arg4.IsWhole) (arg5 : Memref sig .tc .vmem S1280x1024 .bf16) (harg5 : arg5.IsWhole) (arg6 : Memref sig .tc .vmem S1280x1024 .f32) (harg6 : arg6.IsWhole) (hc0 : cond1_0 i) (hc1 : ¬cond1_1 i)
    (x0 : Vec F S1280x2048 .bf16) (x1 : Vec F S2048x1024 .bf16) : Vec F S1280x1024 .f32 :=
  VS1_0.read (Elt F) (VS1_0.writes (Elt F) VS1_0.junk (kernelRun1_A c i arg3 harg3 arg4 harg4 arg5 harg5 arg6 harg6 hc0 hc1 x0 x1).2.1)

/-- Case B stores nothing into output 2 (the window is idle at its points and not written back there):
    no pieces — a placeholder (junk read back) that nothing consults, since at these points the window is neither
    written back nor read at the next point (Lib/Pipeline.lean "Idle points"). -/
def out1_B_2 (c : Dev nD) (i : grid1.Coords) (arg3 : Memref sig .tc .vmem S1280x2048 .bf16) (harg3 : arg3.IsWhole) (arg4 : Memref sig .tc .vmem S2048x1024 .bf16) (harg4 : arg4.IsWhole) (arg5 : Memref sig .tc .vmem S1280x1024 .bf16) (harg5 : arg5.IsWhole) (arg6 : Memref sig .tc .vmem S1280x1024 .f32) (harg6 : arg6.IsWhole) (hc0 : ¬cond1_0 i) (hc1 : ¬cond1_1 i)
    (x0 : Vec F S1280x2048 .bf16) (x1 : Vec F S2048x1024 .bf16) (xs0 : Vec F S1280x1024 .f32) : Vec F S1280x1024 .bf16 :=
  VO1_2.read (Elt F) (VO1_2.writes (Elt F) VO1_2.junk (kernelRun1_B c i arg3 harg3 arg4 harg4 arg5 harg5 arg6 harg6 hc0 hc1 x0 x1 xs0).1)

/-- Case B's pieces for scratch `arg6`, which the kernel carries between points, cover it: 1 piece of `S1280x1024` tiling it (Lib/Ring.lean `Piece.tiledL`). -/
theorem scover1_B_0 (c : Dev nD) (i : grid1.Coords) (arg3 : Memref sig .tc .vmem S1280x2048 .bf16) (harg3 : arg3.IsWhole) (arg4 : Memref sig .tc .vmem S2048x1024 .bf16) (harg4 : arg4.IsWhole) (arg5 : Memref sig .tc .vmem S1280x1024 .bf16) (harg5 : arg5.IsWhole) (arg6 : Memref sig .tc .vmem S1280x1024 .f32) (harg6 : arg6.IsWhole) (hc0 : ¬cond1_0 i) (hc1 : ¬cond1_1 i)
    (x0 : Vec F S1280x2048 .bf16) (x1 : Vec F S2048x1024 .bf16) (xs0 : Vec F S1280x1024 .f32) (y : S1280x1024.Idx) :
    ∃ pc ∈ (kernelRun1_B c i arg3 harg3 arg4 harg4 arg5 harg5 arg6 harg6 hc0 hc1 x0 x1 xs0).2.1, y ∈ pc.1.set :=
  View.cover_of_tiledL (kernelRun1_B c i arg3 harg3 arg4 harg4 arg5 harg5 arg6 harg6 hc0 hc1 x0 x1 xs0).2.1 S1280x1024.size (by sl_kernel_rfl) y

/-- What case B leaves in scratch `arg6`: its pieces read back over junk. -/
def sout1_B_0 (c : Dev nD) (i : grid1.Coords) (arg3 : Memref sig .tc .vmem S1280x2048 .bf16) (harg3 : arg3.IsWhole) (arg4 : Memref sig .tc .vmem S2048x1024 .bf16) (harg4 : arg4.IsWhole) (arg5 : Memref sig .tc .vmem S1280x1024 .bf16) (harg5 : arg5.IsWhole) (arg6 : Memref sig .tc .vmem S1280x1024 .f32) (harg6 : arg6.IsWhole) (hc0 : ¬cond1_0 i) (hc1 : ¬cond1_1 i)
    (x0 : Vec F S1280x2048 .bf16) (x1 : Vec F S2048x1024 .bf16) (xs0 : Vec F S1280x1024 .f32) : Vec F S1280x1024 .f32 :=
  VS1_0.read (Elt F) (VS1_0.writes (Elt F) VS1_0.junk (kernelRun1_B c i arg3 harg3 arg4 harg4 arg5 harg5 arg6 harg6 hc0 hc1 x0 x1 xs0).2.1)

/-- Case C's pieces for output 2 tile its block (1 store of `S1280x1024`, checked by the kernel's evaluation: Lib/Ring.lean `Piece.tiledL`, linear in the pieces, through a loop's `@[irreducible]` trip theorem too), so they cover it. -/
theorem cover1_C_2 (c : Dev nD) (i : grid1.Coords) (arg3 : Memref sig .tc .vmem S1280x2048 .bf16) (harg3 : arg3.IsWhole) (arg4 : Memref sig .tc .vmem S2048x1024 .bf16) (harg4 : arg4.IsWhole) (arg5 : Memref sig .tc .vmem S1280x1024 .bf16) (harg5 : arg5.IsWhole) (arg6 : Memref sig .tc .vmem S1280x1024 .f32) (harg6 : arg6.IsWhole) (hc0 : ¬cond1_0 i) (hc1 : cond1_1 i)
    (x0 : Vec F S1280x2048 .bf16) (x1 : Vec F S2048x1024 .bf16) (xs0 : Vec F S1280x1024 .f32) (y : S1280x1024.Idx) :
    ∃ pc ∈ (kernelRun1_C c i arg3 harg3 arg4 harg4 arg5 harg5 arg6 harg6 hc0 hc1 x0 x1 xs0).1, y ∈ pc.1.set :=
  View.cover_of_tiledL (kernelRun1_C c i arg3 harg3 arg4 harg4 arg5 harg5 arg6 harg6 hc0 hc1 x0 x1 xs0).1 S1280x1024.size (by sl_kernel_rfl) y

/-- What case C leaves in output 2's staging buffer: its pieces read back over junk. -/
def out1_C_2 (c : Dev nD) (i : grid1.Coords) (arg3 : Memref sig .tc .vmem S1280x2048 .bf16) (harg3 : arg3.IsWhole) (arg4 : Memref sig .tc .vmem S2048x1024 .bf16) (harg4 : arg4.IsWhole) (arg5 : Memref sig .tc .vmem S1280x1024 .bf16) (harg5 : arg5.IsWhole) (arg6 : Memref sig .tc .vmem S1280x1024 .f32) (harg6 : arg6.IsWhole) (hc0 : ¬cond1_0 i) (hc1 : cond1_1 i)
    (x0 : Vec F S1280x2048 .bf16) (x1 : Vec F S2048x1024 .bf16) (xs0 : Vec F S1280x1024 .f32) : Vec F S1280x1024 .bf16 :=
  VO1_2.read (Elt F) (VO1_2.writes (Elt F) VO1_2.junk (kernelRun1_C c i arg3 harg3 arg4 harg4 arg5 harg5 arg6 harg6 hc0 hc1 x0 x1 xs0).1)

/-- Case C's pieces for scratch `arg6`, which the kernel carries between points, cover it: 1 piece of `S1280x1024` tiling it (Lib/Ring.lean `Piece.tiledL`). -/
theorem scover1_C_0 (c : Dev nD) (i : grid1.Coords) (arg3 : Memref sig .tc .vmem S1280x2048 .bf16) (harg3 : arg3.IsWhole) (arg4 : Memref sig .tc .vmem S2048x1024 .bf16) (harg4 : arg4.IsWhole) (arg5 : Memref sig .tc .vmem S1280x1024 .bf16) (harg5 : arg5.IsWhole) (arg6 : Memref sig .tc .vmem S1280x1024 .f32) (harg6 : arg6.IsWhole) (hc0 : ¬cond1_0 i) (hc1 : cond1_1 i)
    (x0 : Vec F S1280x2048 .bf16) (x1 : Vec F S2048x1024 .bf16) (xs0 : Vec F S1280x1024 .f32) (y : S1280x1024.Idx) :
    ∃ pc ∈ (kernelRun1_C c i arg3 harg3 arg4 harg4 arg5 harg5 arg6 harg6 hc0 hc1 x0 x1 xs0).2.1, y ∈ pc.1.set :=
  View.cover_of_tiledL (kernelRun1_C c i arg3 harg3 arg4 harg4 arg5 harg5 arg6 harg6 hc0 hc1 x0 x1 xs0).2.1 S1280x1024.size (by sl_kernel_rfl) y

/-- What case C leaves in scratch `arg6`: its pieces read back over junk. -/
def sout1_C_0 (c : Dev nD) (i : grid1.Coords) (arg3 : Memref sig .tc .vmem S1280x2048 .bf16) (harg3 : arg3.IsWhole) (arg4 : Memref sig .tc .vmem S2048x1024 .bf16) (harg4 : arg4.IsWhole) (arg5 : Memref sig .tc .vmem S1280x1024 .bf16) (harg5 : arg5.IsWhole) (arg6 : Memref sig .tc .vmem S1280x1024 .f32) (harg6 : arg6.IsWhole) (hc0 : ¬cond1_0 i) (hc1 : cond1_1 i)
    (x0 : Vec F S1280x2048 .bf16) (x1 : Vec F S2048x1024 .bf16) (xs0 : Vec F S1280x1024 .f32) : Vec F S1280x1024 .f32 :=
  VS1_0.read (Elt F) (VS1_0.writes (Elt F) VS1_0.junk (kernelRun1_C c i arg3 harg3 arg4 harg4 arg5 harg5 arg6 harg6 hc0 hc1 x0 x1 xs0).2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before1_W_κ`). An assignment of the conditions no point meets is no case (`False.elim`). -/
def outsAt1 (c : Dev nD) : (n : ℕ) → n < cfg1.N → Vec F S1280x1024 .bf16 × Vec F S1280x1024 .f32
  | 0, hn => (out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 7 = 0 then
      if h1 : (n + 1) % 7 = 6 then
        False.elim (by have hN : n + 1 < 168 := lt_of_lt_of_eq hn (show cfg1.N = 168 from N_1); omega)
      else
        (out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 7 = 6 then
        (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2)
      else
        (out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

/-- `outsAt1` at a point of case A: that case's contents. -/
theorem outsAt1_A (c : Dev nD) (t : Fin cfg1.N) (h0 : t.val % 7 = 0) (h1 : ¬t.val % 7 = 6) :
    outsAt1 V c t.val t.isLt = (out1_A_2 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t), sout1_A_0 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

/-- `outsAt1` at a point of case B: that case's contents, over what the point before left. -/
theorem outsAt1_B (c : Dev nD) (t : Fin cfg1.N) (h0 : ¬t.val % 7 = 0) (h1 : ¬t.val % 7 = 6) :
    outsAt1 V c t.val t.isLt = (out1_B_2 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at a point of case C: that case's contents, over what the point before left. -/
theorem outsAt1_C (c : Dev nD) (t : Fin cfg1.N) (h0 : ¬t.val % 7 = 0) (h1 : t.val % 7 = 6) :
    outsAt1 V c t.val t.isLt = (out1_C_2 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (Lib/Pipeline/Frame.lean `ΦA`: every scratch at anything); afterwards the scoped rest with each carried scratch
    at what the point before left in it (`outsAt1`'s scratch components), the others at anything, and the generator register
    at some state. -/
def PhiS (c : Dev nD) : (n : ℕ) → n ≤ cfg1.N → sProp 𝕄
  | 0, _ => Phi0 c
  | n + 1, hn => iprop(iprop(owns (c : Thread nD τ) scM1_0 fullShare ((outsAt1 V c n hn).2)) ∗ (otherStages c ∗ (∃ r, prngReg c r)))

theorem PhiS_zero (c : Dev nD) (n : ℕ) (h : n ≤ cfg1.N) (hz : n = 0) : PhiS V c n h = Phi0 c := by
  subst hz; rfl

/-- After point `n` (before point `n + 1`): the carried scratch at that point's contents. -/
theorem PhiS_succ (c : Dev nD) (n : ℕ) (hn : n < cfg1.N) :
    PhiS V c (n + 1) hn = iprop(iprop(owns (c : Thread nD τ) scM1_0 fullShare ((outsAt1 V c n hn).2)) ∗ (otherStages c ∗ (∃ r, prngReg c r))) := rfl

/-- Before a point that is not the first: the carried scratch at what the point before left. -/
theorem PhiS_pos (c : Dev nD) (n : ℕ) (h : n ≤ cfg1.N) (hz : n ≠ 0) :
    PhiS V c n h = iprop(iprop(owns (c : Thread nD τ) scM1_0 fullShare ((outsAt1 V c (n - 1) (by omega)).2)) ∗ (otherStages c ∗ (∃ r, prngReg c r))) := by
  cases n with
  | zero => exact absurd rfl hz
  | succ n => rfl

/-! ## The pipeline's proof data -/

/-- The proof data of the one pipeline on core `c`: the arrays as the region finds them (`V`); after the body at
    point `t` each input's buffer at its block and the outputs' at `outsAt1`; the invariant the class's
    (`PhiS`: the class's `ΦA` before the first point, then the scoped rest with the carried scratch at `outsAt1`'s component);
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS V c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq1 (c : Dev nD) (w : Fin cfg1.W) : (dat1 V c).A w = V c (Pipeline.arrRef spec1 w) := by
  dsimp only [dat1]

/-- The invariant at a point's start (the proof data at `t.castSucc`), restated at `t.val`. -/
theorem PhiS_castSucc (c : Dev nD) (t : Fin cfg1.N) :
    (dat1 V c).Φ t.castSucc = PhiS V c t.val (Nat.le_of_lt t.isLt) := by
  dsimp only [dat1]; exact Pipeline.Dat.Φ_castSucc (PhiS V c) t

/-- What the body leaves, window by window (the proof data's `match` reduced by `dsimp`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the inputs' memrefs hold their blocks (`before1_W`); the closed forms say which case the point is in (`by_cases`), an output the case reads before covering holds what the point before left (`before1_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS V c (t.val + 1) t.isLt from rfl, PhiS_succ]
  have hN : t.val < 168 := lt_of_lt_of_eq t.isLt (show cfg1.N = 168 from N_1)
  by_cases h0 : t.val % 7 = 0
  · by_cases h1 : t.val % 7 = 6
    · exfalso; omega
    · rw [show (dat1 V c).leavesExact 0 t = owns (c : Thread nD τ) (ms1_0 t) fullShare ((dat1 V c).after 0 t) from by
      unfold Dat.leavesExact; rw [liveAt1_0 t], after1_0]
      rw [show (dat1 V c).leavesExact 1 t = owns (c : Thread nD τ) (ms1_1 t) fullShare ((dat1 V c).after 1 t) from by
      unfold Dat.leavesExact; rw [liveAt1_1 t], after1_1]
      rw [Dat.leavesExact_idle (dat1 V c) 2 t (idleAt1_2_A t ((hcond1_0 t).mpr h0) (fun h => h1 ((hcond1_1 t).mp h))) (noFlush1_2_A t ((hcond1_0 t).mpr h0) (fun h => h1 ((hcond1_1 t).mp h)))]
      by_cases hz : t.val = 0
      · rw [PhiS_castSucc V c t, PhiS_zero V c _ _ hz, PhiA1_eq]
        rw [outsAt1_A V c t h0 h1]
        unfold sout1_A_0; (try dsimp only)
        iintro ⟨⟨HS0, Hg⟩, Ho, ⟨%d0, H0⟩, ⟨%d1, H1⟩, ⟨%d2, H2⟩⟩
        iapply ((kernelRun1_A c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hg]
        · isplitl [HS0]
          · unfold owns; iexists _; isplitr
            swap; · iexact HS0
            ipureintro; exact View.read_writes_of_cover _ _ _ _ _ (scover1_A_0 c _ _ _ _ _ _ _ _ _ _ _ _ _)
          iexact Hg
        isplitl [Ho]; · iexact Ho
        isplitl [H0]; · iexact H0
        isplitl [H1]; · iexact H1
        iexists _; iexact H2
      · rw [PhiS_castSucc V c t, PhiS_pos V c _ _ hz]
        rw [outsAt1_A V c t h0 h1]
        unfold sout1_A_0; (try dsimp only)
        iintro ⟨⟨HS0, Hg⟩, Ho, ⟨%d0, H0⟩, ⟨%d1, H1⟩, ⟨%d2, H2⟩⟩
        iapply ((kernelRun1_A c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 Hg]
        · isplitl [HS0]
          · unfold owns; iexists _; isplitr
            swap; · iexact HS0
            ipureintro; exact View.read_writes_of_cover _ _ _ _ _ (scover1_A_0 c _ _ _ _ _ _ _ _ _ _ _ _ _)
          iexact Hg
        isplitl [Ho]; · iexact Ho
        isplitl [H0]; · iexact H0
        isplitl [H1]; · iexact H1
        iexists _; iexact H2
  · by_cases h1 : t.val % 7 = 6
    · rw [show (dat1 V c).leavesExact 0 t = owns (c : Thread nD τ) (ms1_0 t) fullShare ((dat1 V c).after 0 t) from by
      unfold Dat.leavesExact; rw [liveAt1_0 t], after1_0]
      rw [show (dat1 V c).leavesExact 1 t = owns (c : Thread nD τ) (ms1_1 t) fullShare ((dat1 V c).after 1 t) from by
      unfold Dat.leavesExact; rw [liveAt1_1 t], after1_1]
      rw [show (dat1 V c).leavesExact 2 t = owns (c : Thread nD τ) (ms1_2 t) fullShare ((dat1 V c).after 2 t) from by
      unfold Dat.leavesExact; rw [liveAt1_2_C t (fun h => h0 ((hcond1_0 t).mp h)) ((hcond1_1 t).mpr h1)], after1_2]
      by_cases hz : t.val = 0
      · exfalso; have hN : t.val < 168 := lt_of_lt_of_eq t.isLt (show cfg1.N = 168 from N_1); omega
      · rw [PhiS_castSucc V c t, PhiS_pos V c _ _ hz]
        rw [outsAt1_C V c t h0 h1]
        unfold out1_C_2 sout1_C_0; (try dsimp only)
        iintro ⟨⟨HS0, Hg⟩, Ho, ⟨%d0, H0⟩, ⟨%d1, H1⟩, ⟨%d2, H2⟩⟩
        iapply ((kernelRun1_C c (grid1.coords t) _ _ _ _ _ _ _ _ (fun h => h0 ((hcond1_0 t).mp h)) ((hcond1_1 t).mpr h1) (iblk1 V c 0 t) (iblk1 V c 1 t) _).2.2 Set.univ _)
        isplitl [H0]; · iexact H0
        isplitl [H1]; · iexact H1
        isplitl [H2]; · iexists _; iexact H2
        isplitl [HS0]; · iexact HS0
        iintro ⟨H0, H1, ⟨%e2, H2⟩, ⟨%es0, HS0⟩⟩
        isplitl [HS0 Hg]
        · isplitl [HS0]
          · unfold owns; iexists _; isplitr
            swap; · iexact HS0
            ipureintro; exact View.read_writes_of_cover _ _ _ _ _ (scover1_C_0 c _ _ _ _ _ _ _ _ _ _ _ _ _ _)
          iexact Hg
        isplitl [Ho]; · iexact Ho
        isplitl [H0]; · iexact H0
        isplitl [H1]; · iexact H1
        unfold owns; iexists _; isplitr
        swap; · iexact H2
        ipureintro; exact View.read_writes_of_cover _ _ _ _ _ (cover1_C_2 c _ _ _ _ _ _ _ _ _ _ _ _ _ _)
    · rw [show (dat1 V c).leavesExact 0 t = owns (c : Thread nD τ) (ms1_0 t) fullShare ((dat1 V c).after 0 t) from by
      unfold Dat.leavesExact; rw [liveAt1_0 t], after1_0]
      rw [show (dat1 V c).leavesExact 1 t = owns (c : Thread nD τ) (ms1_1 t) fullShare ((dat1 V c).after 1 t) from by
      unfold Dat.leavesExact; rw [liveAt1_1 t], after1_1]
      rw [Dat.leavesExact_idle (dat1 V c) 2 t (idleAt1_2_B t (fun h => h0 ((hcond1_0 t).mp h)) (fun h => h1 ((hcond1_1 t).mp h))) (noFlush1_2_B t (fun h => h0 ((hcond1_0 t).mp h)) (fun h => h1 ((hcond1_1 t).mp h)))]
      by_cases hz : t.val = 0
      · exfalso; have hN : t.val < 168 := lt_of_lt_of_eq t.isLt (show cfg1.N = 168 from N_1); omega
      · rw [PhiS_castSucc V c t, PhiS_pos V c _ _ hz]
        rw [outsAt1_B V c t h0 h1]
        unfold sout1_B_0; (try dsimp only)
        iintro ⟨⟨HS0, Hg⟩, Ho, ⟨%d0, H0⟩, ⟨%d1, H1⟩, ⟨%d2, H2⟩⟩
        iapply ((kernelRun1_B c (grid1.coords t) _ _ _ _ _ _ _ _ (fun h => h0 ((hcond1_0 t).mp h)) (fun h => h1 ((hcond1_1 t).mp h)) (iblk1 V c 0 t) (iblk1 V c 1 t) _).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hg]
        · isplitl [HS0]
          · unfold owns; iexists _; isplitr
            swap; · iexact HS0
            ipureintro; exact View.read_writes_of_cover _ _ _ _ _ (scover1_B_0 c _ _ _ _ _ _ _ _ _ _ _ _ _ _)
          iexact Hg
        isplitl [Ho]; · iexact Ho
        isplitl [H0]; · iexact H0
        isplitl [H1]; · iexact H1
        iexists _; iexact H2

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

/-- What the launch hands the region (`ΦA`) is the invariant before the first point. -/
theorem hin1 (c : Dev nD) : Phi0 c ⊢ (dat1 V c).Φ 0 := by
  rw [show (dat1 V c).Φ 0 = PhiS V c 0 (Nat.zero_le _) from rfl, PhiS_zero V c 0 _ rfl]
  try exact Idealize.SL.BI.Entails.refl _

/-- After any point but the first the invariant gives `ΦA` back: the carried scratch's named contents are forgotten. -/
theorem Phi_out (c : Dev nD) (t : Fin (cfg1.N + 1)) (ht : t.val ≠ 0) : (dat1 V c).Φ t ⊢ Phi0 c := by
  rw [show (dat1 V c).Φ t = PhiS V c t.val (Nat.le_of_lt_succ t.isLt) from rfl, PhiS_pos V c _ _ ht, PhiA1_eq]
  iintro ⟨HS0, Hg⟩
  isplitl [HS0]
  · iexists _; iexact HS0
  iexact Hg

/-- The same after the last point. -/
theorem hout1 (c : Dev nD) : (dat1 V c).Φ (Fin.last cfg1.N) ⊢ Phi0 c :=
  Phi_out V c _ (by rw [Fin.val_last]; have : cfg1.N = 168 := N_1; omega)

end Cert.Kernel.Whole

end
-- ==== Proof.K.Run.lean ====
/- The run of the whole kernel program: both calls and the host stretches between them, from any memory. -/
module

public import proofs.«01_k».proof.Proof.K.Weight
public import proofs.«01_k».proof.Proof.K.Mat

@[expose] public section

-- membership in a rectangle of production extents (`View.cover_of_tiled`): the elaborator's structural look
-- recurses once per coordinate of the long axes
set_option maxRecDepth 16384

noncomputable section

namespace Cert.Kernel.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel.Gen
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- @main's argument arrays, as TensorCore references: what the frame claim reads back. -/
abbrev argRefs : List (Ref sig .tc) := [main_arg0, main_arg1, main_arg2, main_arg3, main_arg4, main_arg5, main_arg6]

/-! ## The host stretches: none allocates a buffer, and each lists the references its operations write, in order,
    so that a reference absent from the list keeps its contents across the stretch (Lib/StableHlo/Run.lean
    `after_of_writes_sub`) -/

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v1]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v3]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-! ## The buffer contents at each segment boundary: a fold through @main, and what each item leaves unchanged -/

/-- Core `c`'s buffers at launch (region 0's entry). -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- The same read at the TensorCore's references (what region 0's proof data take). -/
abbrev V0 : (c : Dev nD) → (b : Ref sig .tc) → Buf (Elt F) ((c : Thread nD τ).loc b) := fun c b => W0 m ρ c b
/-- At region 0's exit: its arrays at what the pipeline leaves (the inputs as entered, each output's write-backs
    folded: `Dat.arrAt … N`), every other buffer as entered (Lib/Pipeline/FrameSuffix.lean `withArrays`). -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- A reference that is none of region 0's OUTPUT arrays keeps its entry contents across it: an input window's
    array is never written back (`Dat.arrAt_in`, `A_eq0`); any other buffer is left as is. -/
theorem W1_of (c : Dev nD) (r : Ref sig .tc) (h : ∀ w : Fin cfg0.W, Pipeline.arrRef spec0 w = r → (cfg0.win w).isOut = false) :
    W1 m ρ c (Proc.devRef .tc r) = W0 m ρ c (Proc.devRef .tc r) := by
  by_cases hw : ∃ w : Fin cfg0.W, Pipeline.arrRef spec0 w = r
  · obtain ⟨w, rfl⟩ := hw
    exact (W1_arr m ρ c w).trans (((dat0 (V0 m ρ) c).arrAt_in w (h w rfl) _).trans (A_eq0 (V0 m ρ) c w))
  · exact W1_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W1_args (c : Dev nD) : ∀ a ∈ argRefs, W1 m ρ c (Proc.devRef .tc a) = m ((c : Thread nD τ).loc a) :=
  fun a ha => (W1_of m ρ c a (argsIn0 a ha)).trans (W0_args m ρ c a ha)
/-- The same read at the TensorCore's references (region 0's exit contents). -/
abbrev V1 : (c : Dev nD) → (b : Ref sig .tc) → Buf (Elt F) ((c : Thread nD τ).loc b) := fun c b => W1 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After `hostOps1` (region 1's entry). -/
abbrev W2 : Dev nD → Valuation τ sig (Elt F) := fun c => StableHlo.after hostOps1 (W1 m ρ c)
/-- A reference `hostOps1` does not write keeps its contents across it. -/
theorem W2_of (c : Dev nD) (r : Ref sig .tc) (h : r ∉ hostOps1_W) : W2 m ρ c (Proc.devRef .tc r) = W1 m ρ c (Proc.devRef .tc r) :=
  StableHlo.after_of_writes_sub hostOps1 _ hostOps1_writes h
theorem W2_args (c : Dev nD) : ∀ a ∈ argRefs, W2 m ρ c (Proc.devRef .tc a) = m ((c : Thread nD τ).loc a) :=
  fun a ha => (W2_of m ρ c a (hostOps1_args a ha)).trans (W1_args m ρ c a ha)
/-- The same read at the TensorCore's references (what region 1's proof data take). -/
abbrev V2 : (c : Dev nD) → (b : Ref sig .tc) → Buf (Elt F) ((c : Thread nD τ).loc b) := fun c b => W2 m ρ c b
/-- At region 1's exit: its arrays at what the pipeline leaves (the inputs as entered, each output's write-backs
    folded: `Dat.arrAt … N`), every other buffer as entered (Lib/Pipeline/FrameSuffix.lean `withArrays`). -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- A reference that is none of region 1's OUTPUT arrays keeps its entry contents across it: an input window's
    array is never written back (`Dat.arrAt_in`, `A_eq1`); any other buffer is left as is. -/
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W3_args (c : Dev nD) : ∀ a ∈ argRefs, W3 m ρ c (Proc.devRef .tc a) = m ((c : Thread nD τ).loc a) :=
  fun a ha => (W3_of m ρ c a (argsIn1 a ha)).trans (W2_args m ρ c a ha)
/-- The same read at the TensorCore's references (region 1's exit contents). -/
abbrev V3 : (c : Dev nD) → (b : Ref sig .tc) → Buf (Elt F) ((c : Thread nD τ).loc b) := fun c b => W3 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After `hostOps2`. -/
abbrev W4 : Dev nD → Valuation τ sig (Elt F) := fun c => StableHlo.after hostOps2 (W3 m ρ c)
/-- A reference `hostOps2` does not write keeps its contents across it. -/
theorem W4_of (c : Dev nD) (r : Ref sig .tc) (h : r ∉ hostOps2_W) : W4 m ρ c (Proc.devRef .tc r) = W3 m ρ c (Proc.devRef .tc r) :=
  StableHlo.after_of_writes_sub hostOps2 _ hostOps2_writes h
theorem W4_args (c : Dev nD) : ∀ a ∈ argRefs, W4 m ρ c (Proc.devRef .tc a) = m ((c : Thread nD τ).loc a) :=
  fun a ha => (W4_of m ρ c a (hostOps2_args a ha)).trans (W3_args m ρ c a ha)

/-! ### The arguments end as launched: no host stretch writes one and no region may change one (a region reads it
    through an input window or bypasses it) -/

theorem W4_main_arg0 (c : Dev nD) : W4 m ρ c (Proc.devRef .tc main_arg0) = m ((c : Thread nD τ).loc main_arg0) :=
  W4_args m ρ c main_arg0 (by decide)
theorem W4_main_arg1 (c : Dev nD) : W4 m ρ c (Proc.devRef .tc main_arg1) = m ((c : Thread nD τ).loc main_arg1) :=
  W4_args m ρ c main_arg1 (by decide)
theorem W4_main_arg2 (c : Dev nD) : W4 m ρ c (Proc.devRef .tc main_arg2) = m ((c : Thread nD τ).loc main_arg2) :=
  W4_args m ρ c main_arg2 (by decide)
theorem W4_main_arg3 (c : Dev nD) : W4 m ρ c (Proc.devRef .tc main_arg3) = m ((c : Thread nD τ).loc main_arg3) :=
  W4_args m ρ c main_arg3 (by decide)
theorem W4_main_arg4 (c : Dev nD) : W4 m ρ c (Proc.devRef .tc main_arg4) = m ((c : Thread nD τ).loc main_arg4) :=
  W4_args m ρ c main_arg4 (by decide)
theorem W4_main_arg5 (c : Dev nD) : W4 m ρ c (Proc.devRef .tc main_arg5) = m ((c : Thread nD τ).loc main_arg5) :=
  W4_args m ρ c main_arg5 (by decide)
theorem W4_main_arg6 (c : Dev nD) : W4 m ρ c (Proc.devRef .tc main_arg6) = m ((c : Thread nD τ).loc main_arg6) :=
  W4_args m ρ c main_arg6 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W4`, the generator register at some state. -/
abbrev Tₙ (c : Dev nD) : sProp 𝕄 := iprop(StableHlo.held (c : Thread nD τ) (Pipeline.ucRefs τ sig) (W4 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W0`, left at `W1`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) (A_eq0 (V0 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W2`, left at `W3`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Phi0 c from rfl]
    refine BI.BIBase.Entails.trans ?_ (Phi0_of_scoped c)
    iintro ⟨Hp, -, Hr⟩
    isplitl [Hr]; · iexact Hr
    iexact Hp
  hout c := by
    rw [Pipeline.ownSems0_none]
    refine BI.BIBase.Entails.trans (hout1 (V2 m ρ) c) (BI.BIBase.Entails.trans (scoped_of_Phi0 c) ?_)
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 4 segments in order: a host segment per stretch from its boundary's contents, a region per pallas_call. -/
abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ),
    .host (hseg hostOps2 hostOps2_sub hostOps2_fresh (W3 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- THE RUN: from any memory with zero counters every execution of the whole program terminates, and every final state has
    the result array at the last boundary's contents, every argument array as launched, every semaphore counter at zero. -/
theorem runW : θ_run defs (onTc (τ := τ) (main (F := F))) ⟨m, fun _ => 0, ρ⟩ (fun r => (∀ c : Dev nD,
      r.2.mem ((c.tc : Thread nD τ).loc main_v3) = W4 m ρ c (Proc.devRef .tc main_v3)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨(fun c =>
      ⟨h c _ (mem_uc main_v3 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c)⟩), funext fun g => hz g (.inr (no_unscoped g.2))⟩)

/-- THE FRAME: the argument arrays end as launched and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => (h.1 c).2, h.2⟩) (runW m ρ)

end Cert.Kernel.Whole

end
-- ==== Proof.KI.Weight.lean ====
/- The first pallas_call (the weight): what its body leaves in the weight block, the body's triple, and the
   pipeline's proof data at any contents `V` of the buffers on entry. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when a region is entered: the parameter every region's half is stated at, which
-- the run instantiates per region
variable (V : (c : Dev nD) → (b : Ref sig .tc) → Buf (Elt F) ((c : Thread nD τ).loc b))

/-! # REGION 0 of @main: custom_call 0, `cc0_loha_weight` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S1024x256 := Rect.unit (s := S1024x256) ![0, 0] S1024x256.size inb_S1024x256_S1024x256_0_0
abbrev r0_1 : Rect S32x512 := Rect.unit (s := S32x512) ![0, 0] S32x512.size inb_S32x512_S32x512_0_0
abbrev r0_2 : Rect S1024x32 := Rect.unit (s := S1024x32) ![0, 0] S1024x32.size inb_S1024x32_S1024x32_0_0
abbrev r0_3 : Rect S1024x512 := Rect.unit (s := S1024x512) ![0, 0] S1024x512.size inb_S1024x512_S1024x512_0_0

/-! ## What the body leaves in each output window's buffer -/

/-! ### Values of the body that the stores' payloads, spelt out, would write more than once

    Each is a vector the body binds (often a part call's result), stated over the input windows' blocks and
    numbered on from the skeleton's payload functions (`k0_pay59` …, after `k0_pay58`), so that
    `out0_W` and the values after it name it instead of spelling it out ; the comment after each is the printed function's
    name for the value (a count appended where that name is bound again). -/

def k0_pay59 (x0 : Vec F S1024x256 .i8) (x1 : Vec F S32x512 .i8) (x2 : Vec F S1024x32 .bf16) (x3 : Vec F S32x512 .bf16) (x4 : Vec F S1024x32 .bf16) (x5 : Vec F S32x512 .bf16) : IVec S256x128 32 :=
  iota .tc S256x128 32 [1] iota_S256x128_d1_w32 -- `v4`
def k0_pay60 (x0 : Vec F S1024x256 .i8) (x1 : Vec F S32x512 .i8) (x2 : Vec F S1024x32 .bf16) (x3 : Vec F S32x512 .bf16) (x4 : Vec F S1024x32 .bf16) (x5 : Vec F S32x512 .bf16) : IVec S32x512 32 :=
  k0_pay6 (View.ld x1 r0_1) -- `v2`
def k0_pay61 (x0 : Vec F S1024x256 .i8) (x1 : Vec F S32x512 .i8) (x2 : Vec F S1024x32 .bf16) (x3 : Vec F S32x512 .bf16) (x4 : Vec F S1024x32 .bf16) (x5 : Vec F S32x512 .bf16) : IVec S256x256 32 :=
  k0_pay7 (View.ld x0 r0_0) -- `v3`
def k0_pay62 (x0 : Vec F S1024x256 .i8) (x1 : Vec F S32x512 .i8) (x2 : Vec F S1024x32 .bf16) (x3 : Vec F S32x512 .bf16) (x4 : Vec F S1024x32 .bf16) (x5 : Vec F S32x512 .bf16) : IVec S256x128 32 :=
  k0_pay8 -- `v11`
def k0_pay63 (x0 : Vec F S1024x256 .i8) (x1 : Vec F S32x512 .i8) (x2 : Vec F S1024x32 .bf16) (x3 : Vec F S32x512 .bf16) (x4 : Vec F S1024x32 .bf16) (x5 : Vec F S32x512 .bf16) : FVec F S1024x128 .fp8e4m3 :=
  k0_pay9 (View.ld x0 r0_0) -- `v33`
def k0_pay64 (x0 : Vec F S1024x256 .i8) (x1 : Vec F S32x512 .i8) (x2 : Vec F S1024x32 .bf16) (x3 : Vec F S32x512 .bf16) (x4 : Vec F S1024x32 .bf16) (x5 : Vec F S32x512 .bf16) : FVec F S1024x128 .fp8e4m3 :=
  k0_pay13 (F := F) (k0_pay62 x0 x1 x2 x3 x4 x5) (k0_pay10 (View.ld x0 r0_0)) k0_pay11 k0_pay12 -- `v55`
def k0_pay65 (x0 : Vec F S1024x256 .i8) (x1 : Vec F S32x512 .i8) (x2 : Vec F S1024x32 .bf16) (x3 : Vec F S32x512 .bf16) (x4 : Vec F S1024x32 .bf16) (x5 : Vec F S32x512 .bf16) : FVec F S1024x128 .fp8e4m3 :=
  k0_pay14 (F := F) (k0_pay61 x0 x1 x2 x3 x4 x5) (k0_pay59 x0 x1 x2 x3 x4 x5) (k0_pay62 x0 x1 x2 x3 x4 x5) -- `v77`
def k0_pay66 (x0 : Vec F S1024x256 .i8) (x1 : Vec F S32x512 .i8) (x2 : Vec F S1024x32 .bf16) (x3 : Vec F S32x512 .bf16) (x4 : Vec F S1024x32 .bf16) (x5 : Vec F S32x512 .bf16) : IVec S256x128 32 :=
  k0_pay15 (k0_pay61 x0 x1 x2 x3 x4 x5) -- `v78`
def k0_pay67 (x0 : Vec F S1024x256 .i8) (x1 : Vec F S32x512 .i8) (x2 : Vec F S1024x32 .bf16) (x3 : Vec F S32x512 .bf16) (x4 : Vec F S1024x32 .bf16) (x5 : Vec F S32x512 .bf16) : IVec S256x128 32 :=
  k0_pay16 (k0_pay59 x0 x1 x2 x3 x4 x5) -- `v82`
def k0_pay68 (x0 : Vec F S1024x256 .i8) (x1 : Vec F S32x512 .i8) (x2 : Vec F S1024x32 .bf16) (x3 : Vec F S32x512 .bf16) (x4 : Vec F S1024x32 .bf16) (x5 : Vec F S32x512 .bf16) : IVec S256x128 1 :=
  k0_pay17 (k0_pay59 x0 x1 x2 x3 x4 x5) -- `v84`
def k0_pay69 (x0 : Vec F S1024x256 .i8) (x1 : Vec F S32x512 .i8) (x2 : Vec F S1024x32 .bf16) (x3 : Vec F S32x512 .bf16) (x4 : Vec F S1024x32 .bf16) (x5 : Vec F S32x512 .bf16) : FVec F S1024x512 .f32 :=
  k0_pay18 (k0_pay62 x0 x1 x2 x3 x4 x5) (k0_pay63 x0 x1 x2 x3 x4 x5) (k0_pay64 x0 x1 x2 x3 x4 x5) (k0_pay65 x0 x1 x2 x3 x4 x5) (k0_pay66 x0 x1 x2 x3 x4 x5) (k0_pay67 x0 x1 x2 x3 x4 x5) (k0_pay68 x0 x1 x2 x3 x4 x5) 128#32 -- `v101`
def k0_pay70 (x0 : Vec F S1024x256 .i8) (x1 : Vec F S32x512 .i8) (x2 : Vec F S1024x32 .bf16) (x3 : Vec F S32x512 .bf16) (x4 : Vec F S1024x32 .bf16) (x5 : Vec F S32x512 .bf16) : FVec F S32x512 .f32 :=
  k0_pay21 (F := F) (k0_pay60 x0 x1 x2 x3 x4 x5) -- `v110`
def k0_pay71 (x0 : Vec F S1024x256 .i8) (x1 : Vec F S32x512 .i8) (x2 : Vec F S1024x32 .bf16) (x3 : Vec F S32x512 .bf16) (x4 : Vec F S1024x32 .bf16) (x5 : Vec F S32x512 .bf16) : FVec F S32x512 .f32 :=
  k0_pay22 (F := F) (k0_pay60 x0 x1 x2 x3 x4 x5) -- `v116`

/-- Window 6's staging buffer after the body, from the input windows' blocks: its 1 store as pieces, LAST
    FIRST (Lib/Pipeline/FrameBody.lean `View.canon`; the payloads are the skeleton's and the values stated above). -/
def out0_6 (x0 : Vec F S1024x256 .i8) (x1 : Vec F S32x512 .i8) (x2 : Vec F S1024x32 .bf16) (x3 : Vec F S32x512 .bf16) (x4 : Vec F S1024x32 .bf16) (x5 : Vec F S32x512 .bf16) : Vec F S1024x512 .bf16 :=
  View.canon [⟨r0_3, k0_pay5 (concatenate S1024x512 0 [⟨S32x512, (k0_pay23 (k0_pay60 x0 x1 x2 x3 x4 x5) (k0_pay62 x0 x1 x2 x3 x4 x5) (k0_pay63 x0 x1 x2 x3 x4 x5) (k0_pay64 x0 x1 x2 x3 x4 x5) (k0_pay65 x0 x1 x2 x3 x4 x5) (k0_pay66 x0 x1 x2 x3 x4 x5) (k0_pay67 x0 x1 x2 x3 x4 x5) (k0_pay68 x0 x1 x2 x3 x4 x5) 128#32)⟩, ⟨S32x512, (k0_pay24 (k0_pay60 x0 x1 x2 x3 x4 x5) (k0_pay62 x0 x1 x2 x3 x4 x5) (k0_pay63 x0 x1 x2 x3 x4 x5) (k0_pay64 x0 x1 x2 x3 x4 x5) (k0_pay65 x0 x1 x2 x3 x4 x5) (k0_pay66 x0 x1 x2 x3 x4 x5) (k0_pay67 x0 x1 x2 x3 x4 x5) (k0_pay68 x0 x1 x2 x3 x4 x5) 128#32)⟩, ⟨S32x512, (k0_pay27 (k0_pay25 (k0_pay60 x0 x1 x2 x3 x4 x5) (k0_pay62 x0 x1 x2 x3 x4 x5) (k0_pay63 x0 x1 x2 x3 x4 x5) (k0_pay64 x0 x1 x2 x3 x4 x5) (k0_pay65 x0 x1 x2 x3 x4 x5) (k0_pay66 x0 x1 x2 x3 x4 x5) (k0_pay67 x0 x1 x2 x3 x4 x5) (k0_pay68 x0 x1 x2 x3 x4 x5) 128#32) (k0_pay26 (F := F) (k0_pay60 x0 x1 x2 x3 x4 x5)))⟩, ⟨S32x512, (k0_pay28 (k0_pay69 x0 x1 x2 x3 x4 x5) (k0_pay70 x0 x1 x2 x3 x4 x5) (k0_pay71 x0 x1 x2 x3 x4 x5))⟩, ⟨S32x512, (k0_pay29 (k0_pay69 x0 x1 x2 x3 x4 x5) (k0_pay70 x0 x1 x2 x3 x4 x5) (k0_pay71 x0 x1 x2 x3 x4 x5))⟩, ⟨S32x512, (k0_pay30 (k0_pay69 x0 x1 x2 x3 x4 x5) (k0_pay70 x0 x1 x2 x3 x4 x5) (k0_pay71 x0 x1 x2 x3 x4 x5))⟩, ⟨S32x512, (k0_pay31 (k0_pay69 x0 x1 x2 x3 x4 x5) (k0_pay70 x0 x1 x2 x3 x4 x5) (k0_pay71 x0 x1 x2 x3 x4 x5))⟩, ⟨S32x512, (k0_pay32 (k0_pay69 x0 x1 x2 x3 x4 x5) (k0_pay70 x0 x1 x2 x3 x4 x5) (k0_pay71 x0 x1 x2 x3 x4 x5))⟩, ⟨S32x512, (k0_pay33 (k0_pay69 x0 x1 x2 x3 x4 x5) (k0_pay70 x0 x1 x2 x3 x4 x5) (k0_pay71 x0 x1 x2 x3 x4 x5))⟩, ⟨S32x512, (k0_pay34 (k0_pay69 x0 x1 x2 x3 x4 x5) (k0_pay70 x0 x1 x2 x3 x4 x5) (k0_pay71 x0 x1 x2 x3 x4 x5))⟩, ⟨S32x512, (k0_pay35 (k0_pay69 x0 x1 x2 x3 x4 x5) (k0_pay70 x0 x1 x2 x3 x4 x5) (k0_pay71 x0 x1 x2 x3 x4 x5))⟩, ⟨S32x512, (k0_pay38 (k0_pay71 x0 x1 x2 x3 x4 x5) (k0_pay36 (k0_pay69 x0 x1 x2 x3 x4 x5)) (k0_pay37 (k0_pay70 x0 x1 x2 x3 x4 x5)))⟩, ⟨S32x512, (k0_pay39 (k0_pay69 x0 x1 x2 x3 x4 x5) (k0_pay70 x0 x1 x2 x3 x4 x5) (k0_pay71 x0 x1 x2 x3 x4 x5))⟩, ⟨S32x512, (k0_pay40 (k0_pay69 x0 x1 x2 x3 x4 x5) (k0_pay70 x0 x1 x2 x3 x4 x5) (k0_pay71 x0 x1 x2 x3 x4 x5))⟩, ⟨S32x512, (k0_pay41 (k0_pay69 x0 x1 x2 x3 x4 x5) (k0_pay70 x0 x1 x2 x3 x4 x5) (k0_pay71 x0 x1 x2 x3 x4 x5))⟩, ⟨S32x512, (k0_pay42 (k0_pay69 x0 x1 x2 x3 x4 x5) (k0_pay70 x0 x1 x2 x3 x4 x5) (k0_pay71 x0 x1 x2 x3 x4 x5))⟩, ⟨S32x512, (k0_pay43 (k0_pay69 x0 x1 x2 x3 x4 x5) (k0_pay70 x0 x1 x2 x3 x4 x5) (k0_pay71 x0 x1 x2 x3 x4 x5))⟩, ⟨S32x512, (k0_pay44 (k0_pay69 x0 x1 x2 x3 x4 x5) (k0_pay70 x0 x1 x2 x3 x4 x5) (k0_pay71 x0 x1 x2 x3 x4 x5))⟩, ⟨S32x512, (k0_pay45 (k0_pay69 x0 x1 x2 x3 x4 x5) (k0_pay70 x0 x1 x2 x3 x4 x5) (k0_pay71 x0 x1 x2 x3 x4 x5))⟩, ⟨S32x512, (k0_pay48 (k0_pay46 (k0_pay69 x0 x1 x2 x3 x4 x5) (k0_pay70 x0 x1 x2 x3 x4 x5)) (k0_pay47 (k0_pay71 x0 x1 x2 x3 x4 x5)))⟩, ⟨S32x512, (k0_pay49 (k0_pay69 x0 x1 x2 x3 x4 x5) (k0_pay70 x0 x1 x2 x3 x4 x5) (k0_pay71 x0 x1 x2 x3 x4 x5))⟩, ⟨S32x512, (k0_pay50 (k0_pay69 x0 x1 x2 x3 x4 x5) (k0_pay70 x0 x1 x2 x3 x4 x5) (k0_pay71 x0 x1 x2 x3 x4 x5))⟩, ⟨S32x512, (k0_pay51 (k0_pay69 x0 x1 x2 x3 x4 x5) (k0_pay70 x0 x1 x2 x3 x4 x5) (k0_pay71 x0 x1 x2 x3 x4 x5))⟩, ⟨S32x512, (k0_pay52 (k0_pay69 x0 x1 x2 x3 x4 x5) (k0_pay70 x0 x1 x2 x3 x4 x5) (k0_pay71 x0 x1 x2 x3 x4 x5))⟩, ⟨S32x512, (k0_pay53 (k0_pay69 x0 x1 x2 x3 x4 x5) (k0_pay70 x0 x1 x2 x3 x4 x5) (k0_pay71 x0 x1 x2 x3 x4 x5))⟩, ⟨S32x512, (k0_pay54 (k0_pay69 x0 x1 x2 x3 x4 x5) (k0_pay70 x0 x1 x2 x3 x4 x5) (k0_pay71 x0 x1 x2 x3 x4 x5))⟩, ⟨S32x512, (k0_pay55 (k0_pay69 x0 x1 x2 x3 x4 x5) (k0_pay70 x0 x1 x2 x3 x4 x5) (k0_pay71 x0 x1 x2 x3 x4 x5))⟩, ⟨S32x512, (k0_pay56 (k0_pay69 x0 x1 x2 x3 x4 x5) (k0_pay70 x0 x1 x2 x3 x4 x5) (k0_pay71 x0 x1 x2 x3 x4 x5))⟩, ⟨S32x512, (k0_pay1 (k0_pay71 x0 x1 x2 x3 x4 x5) (k0_pay57 (k0_pay69 x0 x1 x2 x3 x4 x5)) (k0_pay58 (k0_pay70 x0 x1 x2 x3 x4 x5)))⟩, ⟨S32x512, (k0_pay2 (k0_pay69 x0 x1 x2 x3 x4 x5) (k0_pay70 x0 x1 x2 x3 x4 x5) (k0_pay71 x0 x1 x2 x3 x4 x5))⟩, ⟨S32x512, (k0_pay3 (k0_pay69 x0 x1 x2 x3 x4 x5) (k0_pay70 x0 x1 x2 x3 x4 x5) (k0_pay71 x0 x1 x2 x3 x4 x5))⟩, ⟨S32x512, (k0_pay4 (k0_pay69 x0 x1 x2 x3 x4 x5) (k0_pay70 x0 x1 x2 x3 x4 x5) (k0_pay71 x0 x1 x2 x3 x4 x5))⟩] concatenates_S32x512_S32x512_S32x512_S32x512_S32x512_S32x512_S32x512_S32x512_S32x512_S32x512_S32x512_S32x512_S32x512_S32x512_S32x512_S32x512_S32x512_S32x512_S32x512_S32x512_S32x512_S32x512_S32x512_S32x512_S32x512_S32x512_S32x512_S32x512_S32x512_S32x512_S32x512_S32x512_S1024x512_d0) (View.ld x2 r0_2) (View.ld x3 r0_1) (View.ld x4 r0_2) (View.ld x5 r0_1)⟩]

/-- Its stores tile the buffer (checked by evaluation), so they cover it. -/
theorem cover0_6 (p0 : Vec F S1024x512 .bf16) (y : S1024x512.Idx) :
    ∃ pc ∈ ([⟨r0_3, p0⟩] : List (View.Piece (Elt F) S1024x512 .bf16)), y ∈ pc.1.set :=
  View.cover_of_tiled [⟨r0_3, p0⟩] S1024x512.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel0 (c : Dev nD) (E : Set ℕ) (i : grid0.Coords) (arg2 : Memref sig .tc .vmem S1024x256 .i8) (harg2 : arg2.IsWhole) (arg3 : Memref sig .tc .vmem S32x512 .i8) (harg3 : arg3.IsWhole) (arg4 : Memref sig .tc .vmem S1024x32 .bf16) (harg4 : arg4.IsWhole) (arg5 : Memref sig .tc .vmem S32x512 .bf16) (harg5 : arg5.IsWhole) (arg6 : Memref sig .tc .vmem S1024x32 .bf16) (harg6 : arg6.IsWhole) (arg7 : Memref sig .tc .vmem S32x512 .bf16) (harg7 : arg7.IsWhole) (arg8 : Memref sig .tc .vmem S1024x512 .bf16) (harg8 : arg8.IsWhole)
    (x0 : Vec F S1024x256 .i8) (x1 : Vec F S32x512 .i8) (x2 : Vec F S1024x32 .bf16) (x3 : Vec F S32x512 .bf16) (x4 : Vec F S1024x32 .bf16) (x5 : Vec F S32x512 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (out0_6 x0 x1 x2 x3 x4 x5)) -∗ K ⟨⟩))
      ⊢ wp frame (wpE (defs₀ (F := F)) Variants.none c none) E (cc0_loha_weight i arg2 harg2 arg3 harg3 arg4 harg4 arg5 harg5 arg6 harg6 arg7 harg7 arg8 harg8) K := by
  simp only [cc0_loha_weight_eq_skeleton]; unfold cc0_loha_weight_skel
  simp only [k0_part1_eq_skeleton, k0_part2_eq_skeleton, k0_part3_eq_skeleton, k0_part4_eq_skeleton, k0_part5_eq_skeleton, k0_part6_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  refine (View.read_writes_eq_canon _ _ _ (cover0_6 _)).trans ?_
  rfl

/-! ## The pipeline's proof data -/

/-- The proof data of pipeline 0 on core `c`: the arrays as the region finds them (`V`); after the body at
    point `t` each input's buffer at its block and each output's at `out0_W` of the input blocks; the invariant the
    class's (Lib/Pipeline/Frame.lean `ΦA`: the scoped rest and the generator register, untouched); nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`, never `rfl`: Lib/Pipeline.lean `Dat`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) (iblk0 V c 5 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ (grid0.coords t) _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Regions

end Cert.KernelIdeal.Whole

end
-- ==== Proof.KI.MatRuns.lean ====
/- The second pallas_call (the matmul): its windows' blocks, its branch conditions in closed form, its scratch
   accumulator, and what it holds beside its windows. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's `scf.if` 0 (`k1_h1`), from the grid coordinates (the skeleton's scalar
    chain substituted). -/
abbrev cond1_0 (i : grid1.Coords) : Prop := (Scalar.cmpi .ne (Scalar.extui (Scalar.cmpi .eq (BitVec.ofNat 32 (i 2).val) 0#32)) 0#32) = 1#1
/-- It holds at the points ≡ 0 (mod 7) — by arithmetic of the point. -/
theorem hcond1_0 : ∀ t : Fin cfg1.N, cond1_0 (grid1.coords t) ↔ t.val % 7 = 0 :=
  (fun t => by
    have ht : t.val < 168 := Nat.lt_of_lt_of_eq t.isLt N_1
    have e0 : (grid1.coords t 0).val = t.val / 28 % 6 := Pipeline.Grid.coords_val t 0 (by decide) rfl
    have e1 : (grid1.coords t 1).val = t.val / 7 % 4 := Pipeline.Grid.coords_val t 1 (by decide) rfl
    have e2 : (grid1.coords t 2).val = t.val / 1 % 7 := Pipeline.Grid.coords_val t 2 (by decide) rfl
    simp only [cond1_0, e0, e1, e2]
    word_cmp
   : ∀ t : Fin grid1.N, cond1_0 (grid1.coords t) ↔ t.val % 7 = 0)

/-- The condition of the body's `scf.if` 1 (`k1_h2`), from the grid coordinates (the skeleton's scalar
    chain substituted). -/
abbrev cond1_1 (i : grid1.Coords) : Prop := k1_cond2 i = 1#1
/-- It holds at the points ≡ 6 (mod 7) — by arithmetic of the point. -/
theorem hcond1_1 : ∀ t : Fin cfg1.N, cond1_1 (grid1.coords t) ↔ t.val % 7 = 6 :=
  (fun t => by
    have ht : t.val < 168 := Nat.lt_of_lt_of_eq t.isLt N_1
    have e0 : (grid1.coords t 0).val = t.val / 28 % 6 := Pipeline.Grid.coords_val t 0 (by decide) rfl
    have e1 : (grid1.coords t 1).val = t.val / 7 % 4 := Pipeline.Grid.coords_val t 1 (by decide) rfl
    have e2 : (grid1.coords t 2).val = t.val / 1 % 7 := Pipeline.Grid.coords_val t 2 (by decide) rfl
    simp only [cond1_1, k1_cond2, e0, e1, e2]
    word_cmp
   : ∀ t : Fin grid1.N, cond1_1 (grid1.coords t) ↔ t.val % 7 = 6)

/-! ## Where the windows are idle (the printed configuration's table `Cfg.idle`) -/

/-- Window 0 is never idle (an input). -/
theorem liveAt1_0 : ∀ t : Fin cfg1.N, cfg1.idle 0 (grid1.coords t) = false := fun _ => rfl
/-- Window 1 is never idle (an input). -/
theorem liveAt1_1 : ∀ t : Fin cfg1.N, cfg1.idle 1 (grid1.coords t) = false := fun _ => rfl
/-- At the points of case A the printed configuration (`Cfg.idle`) calls output 2 idle: the case stores nothing into it. -/
theorem idleAt1_2_A : ∀ t : Fin cfg1.N, cond1_0 (grid1.coords t) → ¬cond1_1 (grid1.coords t) → cfg1.idle 2 (grid1.coords t) = true := by decide +kernel
/-- At the points of case A the pipeline does not write output 2's block back. -/
theorem noFlush1_2_A : ∀ t : Fin cfg1.N, cond1_0 (grid1.coords t) → ¬cond1_1 (grid1.coords t) → (cfg1.win 2).flush t = false := by decide +kernel
/-- At the points of case B the printed configuration (`Cfg.idle`) calls output 2 idle: the case stores nothing into it. -/
theorem idleAt1_2_B : ∀ t : Fin cfg1.N, ¬cond1_0 (grid1.coords t) → ¬cond1_1 (grid1.coords t) → cfg1.idle 2 (grid1.coords t) = true := by decide +kernel
/-- At the points of case B the pipeline does not write output 2's block back. -/
theorem noFlush1_2_B : ∀ t : Fin cfg1.N, ¬cond1_0 (grid1.coords t) → ¬cond1_1 (grid1.coords t) → (cfg1.win 2).flush t = false := by decide +kernel
/-- At the points of case C the printed configuration (`Cfg.idle`) calls output 2 live: the case stores into it. -/
theorem liveAt1_2_C : ∀ t : Fin cfg1.N, ¬cond1_0 (grid1.coords t) → cond1_1 (grid1.coords t) → cfg1.idle 2 (grid1.coords t) = false := by decide +kernel

/-! ## The kernel body on any staging memrefs: a subtype the run finds -/

/-- One staging buffer of output window 2, through which its contents are stated (`View.read_writes_of_cover`: the
    choice does not matter). -/
abbrev VO1_2 : View sig .tc .vmem S1280x1024 .bf16 := (Memref.whole cc1_stg2_0 : Memref sig .tc .vmem S1280x1024 .bf16).view
/-- Each window's current staging memref at point `t`, spelled as the pipeline passes it (`bodyAt1`), and its wholeness. -/
abbrev ms1_0 (t : Fin cfg1.N) : Memref sig .tc .vmem S1280x2048 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1280x1024 .bf16 := win1_2.stage (cfg1.slots t 2)
abbrev hs1_2 (t : Fin cfg1.N) : (ms1_2 t).IsWhole := hstage1_2 ((cfg1.slots t 2).cast nbuf1_2)
/-- The scratch operands: whole scoped buffers of the kernel's own, passed beside the windows. -/
abbrev scM1_0 : Memref sig .tc .vmem S1280x1024 .f32 := Memref.whole cc1_scratch0
/-- The scratch `arg6` the kernel carries between points, as a view: what it holds is stated through it. -/
abbrev VS1_0 : View sig .tc .vmem S1280x1024 .f32 := scM1_0.view

/-- The staging buffers of the first call, which the second call leaves alone, each at some contents. -/
def otherStages (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f))

/-- What the call holds beside its windows before its first point: the accumulator at some contents, the first call's
    staging buffers, the generator register. -/
def Phi0 (c : Dev nD) : sProp 𝕄 :=
  iprop(iprop((∃ d, owns (c : Thread nD τ) scM1_0 fullShare d)) ∗ (otherStages c ∗ (∃ r, prngReg c r)))

theorem PhiA1_eq (c : Dev nD) :
    (Phi0 c : sProp 𝕄)
      = iprop(iprop((∃ d, owns (c : Thread nD τ) scM1_0 fullShare d)) ∗ (otherStages c ∗ (∃ r, prngReg c r))) := rfl

/-- The region's scoped rest and the generator register make up `Phi0`. -/
theorem Phi0_of_scoped (c : Dev nD) :
    iprop(Pipeline.scopedRest spec1 c ∗ (∃ r, prngReg c r)) ⊢ (Phi0 c : sProp 𝕄) := by
  rw [scopedRest1_eq, PhiA1_eq]; unfold otherStages; simp only [scM1_0, owns_whole]
  iintro ⟨⟨H0, H1, H2, H3, H4, H5, H6, H7, H8, H9, H10, H11, H12, H13, H14⟩, Hg⟩
  isplitl [H14]; · iexact H14
  isplitr [Hg]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  iexact Hg

/-- And `Phi0` gives them back. -/
theorem scoped_of_Phi0 (c : Dev nD) :
    (Phi0 c : sProp 𝕄) ⊢ iprop(Pipeline.scopedRest spec1 c ∗ (∃ r, prngReg c r)) := by
  rw [scopedRest1_eq, PhiA1_eq]; unfold otherStages; simp only [scM1_0, owns_whole]
  iintro ⟨H14, ⟨H0, H1, H2, H3, H4, H5, H6, H7, H8, H9, H10, H11, H12, H13⟩, Hg⟩
  isplitr [Hg]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14
  iexact Hg

end Cert.KernelIdeal.Whole

end
-- ==== Proof.KI.MatRunA.lean ====
/- The matmul's body at the first k block of an output block. -/
module

public import proofs.«01_k».proof.Proof.KI.MatRuns

@[expose] public section

-- membership in a rectangle of production extents (`View.cover_of_tiled`): the elaborator's structural look
-- recurses once per coordinate of the long axes
set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- (the run's proof term is large: the definition's epilogue — `abstractNestedProofs` — walks it past the default budget)
set_option maxHeartbeats 1000000 in
/-- What the body's stores leave in each output's staging memref, as pieces (last first) IN CASE A (`scf.if` 0 taken, `scf.if` 1 not taken: points 0, 7, … 161: 24 of 168), WITH the
    proof that on whole staging memrefs — the inputs' at their contents, the outputs it leaves idle (2: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_A (c : Dev nD) (i : grid1.Coords) (arg3 : Memref sig .tc .vmem S1280x2048 .bf16) (harg3 : arg3.IsWhole) (arg4 : Memref sig .tc .vmem S2048x1024 .bf16) (harg4 : arg4.IsWhole) (arg5 : Memref sig .tc .vmem S1280x1024 .bf16) (harg5 : arg5.IsWhole) (arg6 : Memref sig .tc .vmem S1280x1024 .f32) (harg6 : arg6.IsWhole) (hc0 : cond1_0 i) (hc1 : ¬cond1_1 i)
    (x0 : Vec F S1280x2048 .bf16) (x1 : Vec F S2048x1024 .bf16) :
    Σ' (L2 : List (View.Piece (Elt F) S1280x1024 .bf16)), { LS0 : List (View.Piece (Elt F) S1280x1024 .f32) //
      ∀ (xi2 : Vec F S1280x1024 .bf16) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc1_loha_matmul i arg3 harg3 arg4 harg4 arg5 harg5 arg6 harg6) K } := by
  refine ⟨[], ?_, fun xi2 E K => ?run⟩
  case run =>
    simp only [cc1_loha_matmul_eq_skeleton]; unfold cc1_loha_matmul_skel
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1; obtain rfl := harg5.eq_unread hf2
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.KernelIdeal.Whole

end
-- ==== Proof.KI.MatRunB.lean ====
/- The matmul's body at a k block that is neither first nor last. -/
module

public import proofs.«01_k».proof.Proof.KI.MatRunA

@[expose] public section

-- membership in a rectangle of production extents (`View.cover_of_tiled`): the elaborator's structural look
-- recurses once per coordinate of the long axes
set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- (the run's proof term is large: the definition's epilogue — `abstractNestedProofs` — walks it past the default budget)
set_option maxHeartbeats 1000000 in
/-- What the body's stores leave in each output's staging memref, as pieces (last first) IN CASE B (`scf.if` 0 not taken, `scf.if` 1 not taken: points 1, 2, … 166: 120 of 168), WITH the
    proof that on whole staging memrefs — the inputs' at their contents, the outputs it leaves idle (2: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_B (c : Dev nD) (i : grid1.Coords) (arg3 : Memref sig .tc .vmem S1280x2048 .bf16) (harg3 : arg3.IsWhole) (arg4 : Memref sig .tc .vmem S2048x1024 .bf16) (harg4 : arg4.IsWhole) (arg5 : Memref sig .tc .vmem S1280x1024 .bf16) (harg5 : arg5.IsWhole) (arg6 : Memref sig .tc .vmem S1280x1024 .f32) (harg6 : arg6.IsWhole) (hc0 : ¬cond1_0 i) (hc1 : ¬cond1_1 i)
    (x0 : Vec F S1280x2048 .bf16) (x1 : Vec F S2048x1024 .bf16) (xs0 : Vec F S1280x1024 .f32) :
    Σ' (L2 : List (View.Piece (Elt F) S1280x1024 .bf16)), { LS0 : List (View.Piece (Elt F) S1280x1024 .f32) //
      ∀ (xi2 : Vec F S1280x1024 .bf16) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs0
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc1_loha_matmul i arg3 harg3 arg4 harg4 arg5 harg5 arg6 harg6) K } := by
  refine ⟨[], ?_, fun xi2 E K => ?run⟩
  case run =>
    simp only [cc1_loha_matmul_eq_skeleton]; unfold cc1_loha_matmul_skel
    unfold owns
    iintro ⟨⟨%f0, %hf0, H0⟩, ⟨%f1, %hf1, H1⟩, ⟨%f2, %hf2, H2⟩, ⟨%fs0, %hfs0, HS0⟩, Hk⟩
    obtain rfl := harg3.eq_unread hf0; obtain rfl := harg4.eq_unread hf1; obtain rfl := harg5.eq_unread hf2; obtain rfl := harg6.eq_unread hfs0
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.KernelIdeal.Whole

end
-- ==== Proof.KI.MatRunC.lean ====
/- The matmul's body at the last k block of an output block. -/
module

public import proofs.«01_k».proof.Proof.KI.MatRunB

@[expose] public section

-- membership in a rectangle of production extents (`View.cover_of_tiled`): the elaborator's structural look
-- recurses once per coordinate of the long axes
set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- (the run's proof term is large: the definition's epilogue — `abstractNestedProofs` — walks it past the default budget)
set_option maxHeartbeats 1000000 in
/-- What the body's stores leave in each output's staging memref, as pieces (last first) IN CASE C (`scf.if` 0 not taken, `scf.if` 1 taken: points 6, 13, … 167: 24 of 168), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_C (c : Dev nD) (i : grid1.Coords) (arg3 : Memref sig .tc .vmem S1280x2048 .bf16) (harg3 : arg3.IsWhole) (arg4 : Memref sig .tc .vmem S2048x1024 .bf16) (harg4 : arg4.IsWhole) (arg5 : Memref sig .tc .vmem S1280x1024 .bf16) (harg5 : arg5.IsWhole) (arg6 : Memref sig .tc .vmem S1280x1024 .f32) (harg6 : arg6.IsWhole) (hc0 : ¬cond1_0 i) (hc1 : cond1_1 i)
    (x0 : Vec F S1280x2048 .bf16) (x1 : Vec F S2048x1024 .bf16) (xs0 : Vec F S1280x1024 .f32) :
    Σ' (L2 : List (View.Piece (Elt F) S1280x1024 .bf16)), { LS0 : List (View.Piece (Elt F) S1280x1024 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc1_loha_matmul i arg3 harg3 arg4 harg4 arg5 harg5 arg6 harg6) K } := by
  refine ⟨?_, ?_, fun E K => ?run⟩
  case run =>
    simp only [cc1_loha_matmul_eq_skeleton]; unfold cc1_loha_matmul_skel
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

end Cert.KernelIdeal.Whole

end
-- ==== Proof.KI.Mat.lean ====
/- The second pallas_call (the matmul): what its accumulator and its output block hold point by point, and the
   pipeline's proof data at any contents `V` of the buffers on entry. -/
module

public import proofs.«01_k».proof.Proof.KI.MatRunC

@[expose] public section

-- membership in a rectangle of production extents (`View.cover_of_tiled`): the elaborator's structural look
-- recurses once per coordinate of the long axes
set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-- Case A stores nothing into output 2 (the window is idle at its points and not written back there):
    no pieces — a placeholder (junk read back) that nothing consults, since at these points the window is neither
    written back nor read at the next point (Lib/Pipeline.lean "Idle points"). -/
def out1_A_2 (c : Dev nD) (i : grid1.Coords) (arg3 : Memref sig .tc .vmem S1280x2048 .bf16) (harg3 : arg3.IsWhole) (arg4 : Memref sig .tc .vmem S2048x1024 .bf16) (harg4 : arg4.IsWhole) (arg5 : Memref sig .tc .vmem S1280x1024 .bf16) (harg5 : arg5.IsWhole) (arg6 : Memref sig .tc .vmem S1280x1024 .f32) (harg6 : arg6.IsWhole) (hc0 : cond1_0 i) (hc1 : ¬cond1_1 i)
    (x0 : Vec F S1280x2048 .bf16) (x1 : Vec F S2048x1024 .bf16) : Vec F S1280x1024 .bf16 :=
  VO1_2.read (Elt F) (VO1_2.writes (Elt F) VO1_2.junk (kernelRun1_A c i arg3 harg3 arg4 harg4 arg5 harg5 arg6 harg6 hc0 hc1 x0 x1).1)

/-- Case A's pieces for scratch `arg6`, which the kernel carries between points, cover it: 2 pieces of `S1280x1024` tiling it (Lib/Ring.lean `Piece.tiledL`). -/
theorem scover1_A_0 (c : Dev nD) (i : grid1.Coords) (arg3 : Memref sig .tc .vmem S1280x2048 .bf16) (harg3 : arg3.IsWhole) (arg4 : Memref sig .tc .vmem S2048x1024 .bf16) (harg4 : arg4.IsWhole) (arg5 : Memref sig .tc .vmem S1280x1024 .bf16) (harg5 : arg5.IsWhole) (arg6 : Memref sig .tc .vmem S1280x1024 .f32) (harg6 : arg6.IsWhole) (hc0 : cond1_0 i) (hc1 : ¬cond1_1 i)
    (x0 : Vec F S1280x2048 .bf16) (x1 : Vec F S2048x1024 .bf16) (y : S1280x1024.Idx) :
    ∃ pc ∈ (kernelRun1_A c i arg3 harg3 arg4 harg4 arg5 harg5 arg6 harg6 hc0 hc1 x0 x1).2.1, y ∈ pc.1.set :=
  View.cover_of_tiledL (kernelRun1_A c i arg3 harg3 arg4 harg4 arg5 harg5 arg6 harg6 hc0 hc1 x0 x1).2.1 S1280x1024.size (by sl_kernel_rfl) y

/-- What case A leaves in scratch `arg6`: its pieces read back over junk. -/
def sout1_A_0 (c : Dev nD) (i : grid1.Coords) (arg3 : Memref sig .tc .vmem S1280x2048 .bf16) (harg3 : arg3.IsWhole) (arg4 : Memref sig .tc .vmem S2048x1024 .bf16) (harg4 : arg4.IsWhole) (arg5 : Memref sig .tc .vmem S1280x1024 .bf16) (harg5 : arg5.IsWhole) (arg6 : Memref sig .tc .vmem S1280x1024 .f32) (harg6 : arg6.IsWhole) (hc0 : cond1_0 i) (hc1 : ¬cond1_1 i)
    (x0 : Vec F S1280x2048 .bf16) (x1 : Vec F S2048x1024 .bf16) : Vec F S1280x1024 .f32 :=
  VS1_0.read (Elt F) (VS1_0.writes (Elt F) VS1_0.junk (kernelRun1_A c i arg3 harg3 arg4 harg4 arg5 harg5 arg6 harg6 hc0 hc1 x0 x1).2.1)

/-- Case B stores nothing into output 2 (the window is idle at its points and not written back there):
    no pieces — a placeholder (junk read back) that nothing consults, since at these points the window is neither
    written back nor read at the next point (Lib/Pipeline.lean "Idle points"). -/
def out1_B_2 (c : Dev nD) (i : grid1.Coords) (arg3 : Memref sig .tc .vmem S1280x2048 .bf16) (harg3 : arg3.IsWhole) (arg4 : Memref sig .tc .vmem S2048x1024 .bf16) (harg4 : arg4.IsWhole) (arg5 : Memref sig .tc .vmem S1280x1024 .bf16) (harg5 : arg5.IsWhole) (arg6 : Memref sig .tc .vmem S1280x1024 .f32) (harg6 : arg6.IsWhole) (hc0 : ¬cond1_0 i) (hc1 : ¬cond1_1 i)
    (x0 : Vec F S1280x2048 .bf16) (x1 : Vec F S2048x1024 .bf16) (xs0 : Vec F S1280x1024 .f32) : Vec F S1280x1024 .bf16 :=
  VO1_2.read (Elt F) (VO1_2.writes (Elt F) VO1_2.junk (kernelRun1_B c i arg3 harg3 arg4 harg4 arg5 harg5 arg6 harg6 hc0 hc1 x0 x1 xs0).1)

/-- Case B's pieces for scratch `arg6`, which the kernel carries between points, cover it: 1 piece of `S1280x1024` tiling it (Lib/Ring.lean `Piece.tiledL`). -/
theorem scover1_B_0 (c : Dev nD) (i : grid1.Coords) (arg3 : Memref sig .tc .vmem S1280x2048 .bf16) (harg3 : arg3.IsWhole) (arg4 : Memref sig .tc .vmem S2048x1024 .bf16) (harg4 : arg4.IsWhole) (arg5 : Memref sig .tc .vmem S1280x1024 .bf16) (harg5 : arg5.IsWhole) (arg6 : Memref sig .tc .vmem S1280x1024 .f32) (harg6 : arg6.IsWhole) (hc0 : ¬cond1_0 i) (hc1 : ¬cond1_1 i)
    (x0 : Vec F S1280x2048 .bf16) (x1 : Vec F S2048x1024 .bf16) (xs0 : Vec F S1280x1024 .f32) (y : S1280x1024.Idx) :
    ∃ pc ∈ (kernelRun1_B c i arg3 harg3 arg4 harg4 arg5 harg5 arg6 harg6 hc0 hc1 x0 x1 xs0).2.1, y ∈ pc.1.set :=
  View.cover_of_tiledL (kernelRun1_B c i arg3 harg3 arg4 harg4 arg5 harg5 arg6 harg6 hc0 hc1 x0 x1 xs0).2.1 S1280x1024.size (by sl_kernel_rfl) y

/-- What case B leaves in scratch `arg6`: its pieces read back over junk. -/
def sout1_B_0 (c : Dev nD) (i : grid1.Coords) (arg3 : Memref sig .tc .vmem S1280x2048 .bf16) (harg3 : arg3.IsWhole) (arg4 : Memref sig .tc .vmem S2048x1024 .bf16) (harg4 : arg4.IsWhole) (arg5 : Memref sig .tc .vmem S1280x1024 .bf16) (harg5 : arg5.IsWhole) (arg6 : Memref sig .tc .vmem S1280x1024 .f32) (harg6 : arg6.IsWhole) (hc0 : ¬cond1_0 i) (hc1 : ¬cond1_1 i)
    (x0 : Vec F S1280x2048 .bf16) (x1 : Vec F S2048x1024 .bf16) (xs0 : Vec F S1280x1024 .f32) : Vec F S1280x1024 .f32 :=
  VS1_0.read (Elt F) (VS1_0.writes (Elt F) VS1_0.junk (kernelRun1_B c i arg3 harg3 arg4 harg4 arg5 harg5 arg6 harg6 hc0 hc1 x0 x1 xs0).2.1)

/-- Case C's pieces for output 2 tile its block (1 store of `S1280x1024`, checked by the kernel's evaluation: Lib/Ring.lean `Piece.tiledL`, linear in the pieces, through a loop's `@[irreducible]` trip theorem too), so they cover it. -/
theorem cover1_C_2 (c : Dev nD) (i : grid1.Coords) (arg3 : Memref sig .tc .vmem S1280x2048 .bf16) (harg3 : arg3.IsWhole) (arg4 : Memref sig .tc .vmem S2048x1024 .bf16) (harg4 : arg4.IsWhole) (arg5 : Memref sig .tc .vmem S1280x1024 .bf16) (harg5 : arg5.IsWhole) (arg6 : Memref sig .tc .vmem S1280x1024 .f32) (harg6 : arg6.IsWhole) (hc0 : ¬cond1_0 i) (hc1 : cond1_1 i)
    (x0 : Vec F S1280x2048 .bf16) (x1 : Vec F S2048x1024 .bf16) (xs0 : Vec F S1280x1024 .f32) (y : S1280x1024.Idx) :
    ∃ pc ∈ (kernelRun1_C c i arg3 harg3 arg4 harg4 arg5 harg5 arg6 harg6 hc0 hc1 x0 x1 xs0).1, y ∈ pc.1.set :=
  View.cover_of_tiledL (kernelRun1_C c i arg3 harg3 arg4 harg4 arg5 harg5 arg6 harg6 hc0 hc1 x0 x1 xs0).1 S1280x1024.size (by sl_kernel_rfl) y

/-- What case C leaves in output 2's staging buffer: its pieces read back over junk. -/
def out1_C_2 (c : Dev nD) (i : grid1.Coords) (arg3 : Memref sig .tc .vmem S1280x2048 .bf16) (harg3 : arg3.IsWhole) (arg4 : Memref sig .tc .vmem S2048x1024 .bf16) (harg4 : arg4.IsWhole) (arg5 : Memref sig .tc .vmem S1280x1024 .bf16) (harg5 : arg5.IsWhole) (arg6 : Memref sig .tc .vmem S1280x1024 .f32) (harg6 : arg6.IsWhole) (hc0 : ¬cond1_0 i) (hc1 : cond1_1 i)
    (x0 : Vec F S1280x2048 .bf16) (x1 : Vec F S2048x1024 .bf16) (xs0 : Vec F S1280x1024 .f32) : Vec F S1280x1024 .bf16 :=
  VO1_2.read (Elt F) (VO1_2.writes (Elt F) VO1_2.junk (kernelRun1_C c i arg3 harg3 arg4 harg4 arg5 harg5 arg6 harg6 hc0 hc1 x0 x1 xs0).1)

/-- Case C's pieces for scratch `arg6`, which the kernel carries between points, cover it: 1 piece of `S1280x1024` tiling it (Lib/Ring.lean `Piece.tiledL`). -/
theorem scover1_C_0 (c : Dev nD) (i : grid1.Coords) (arg3 : Memref sig .tc .vmem S1280x2048 .bf16) (harg3 : arg3.IsWhole) (arg4 : Memref sig .tc .vmem S2048x1024 .bf16) (harg4 : arg4.IsWhole) (arg5 : Memref sig .tc .vmem S1280x1024 .bf16) (harg5 : arg5.IsWhole) (arg6 : Memref sig .tc .vmem S1280x1024 .f32) (harg6 : arg6.IsWhole) (hc0 : ¬cond1_0 i) (hc1 : cond1_1 i)
    (x0 : Vec F S1280x2048 .bf16) (x1 : Vec F S2048x1024 .bf16) (xs0 : Vec F S1280x1024 .f32) (y : S1280x1024.Idx) :
    ∃ pc ∈ (kernelRun1_C c i arg3 harg3 arg4 harg4 arg5 harg5 arg6 harg6 hc0 hc1 x0 x1 xs0).2.1, y ∈ pc.1.set :=
  View.cover_of_tiledL (kernelRun1_C c i arg3 harg3 arg4 harg4 arg5 harg5 arg6 harg6 hc0 hc1 x0 x1 xs0).2.1 S1280x1024.size (by sl_kernel_rfl) y

/-- What case C leaves in scratch `arg6`: its pieces read back over junk. -/
def sout1_C_0 (c : Dev nD) (i : grid1.Coords) (arg3 : Memref sig .tc .vmem S1280x2048 .bf16) (harg3 : arg3.IsWhole) (arg4 : Memref sig .tc .vmem S2048x1024 .bf16) (harg4 : arg4.IsWhole) (arg5 : Memref sig .tc .vmem S1280x1024 .bf16) (harg5 : arg5.IsWhole) (arg6 : Memref sig .tc .vmem S1280x1024 .f32) (harg6 : arg6.IsWhole) (hc0 : ¬cond1_0 i) (hc1 : cond1_1 i)
    (x0 : Vec F S1280x2048 .bf16) (x1 : Vec F S2048x1024 .bf16) (xs0 : Vec F S1280x1024 .f32) : Vec F S1280x1024 .f32 :=
  VS1_0.read (Elt F) (VS1_0.writes (Elt F) VS1_0.junk (kernelRun1_C c i arg3 harg3 arg4 harg4 arg5 harg5 arg6 harg6 hc0 hc1 x0 x1 xs0).2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before1_W_κ`). An assignment of the conditions no point meets is no case (`False.elim`). -/
def outsAt1 (c : Dev nD) : (n : ℕ) → n < cfg1.N → Vec F S1280x1024 .bf16 × Vec F S1280x1024 .f32
  | 0, hn => (out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 7 = 0 then
      if h1 : (n + 1) % 7 = 6 then
        False.elim (by have hN : n + 1 < 168 := lt_of_lt_of_eq hn (show cfg1.N = 168 from N_1); omega)
      else
        (out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 7 = 6 then
        (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2)
      else
        (out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

/-- `outsAt1` at a point of case A: that case's contents. -/
theorem outsAt1_A (c : Dev nD) (t : Fin cfg1.N) (h0 : t.val % 7 = 0) (h1 : ¬t.val % 7 = 6) :
    outsAt1 V c t.val t.isLt = (out1_A_2 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t), sout1_A_0 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

/-- `outsAt1` at a point of case B: that case's contents, over what the point before left. -/
theorem outsAt1_B (c : Dev nD) (t : Fin cfg1.N) (h0 : ¬t.val % 7 = 0) (h1 : ¬t.val % 7 = 6) :
    outsAt1 V c t.val t.isLt = (out1_B_2 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at a point of case C: that case's contents, over what the point before left. -/
theorem outsAt1_C (c : Dev nD) (t : Fin cfg1.N) (h0 : ¬t.val % 7 = 0) (h1 : t.val % 7 = 6) :
    outsAt1 V c t.val t.isLt = (out1_C_2 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (Lib/Pipeline/Frame.lean `ΦA`: every scratch at anything); afterwards the scoped rest with each carried scratch
    at what the point before left in it (`outsAt1`'s scratch components), the others at anything, and the generator register
    at some state. -/
def PhiS (c : Dev nD) : (n : ℕ) → n ≤ cfg1.N → sProp 𝕄
  | 0, _ => Phi0 c
  | n + 1, hn => iprop(iprop(owns (c : Thread nD τ) scM1_0 fullShare ((outsAt1 V c n hn).2)) ∗ (otherStages c ∗ (∃ r, prngReg c r)))

theorem PhiS_zero (c : Dev nD) (n : ℕ) (h : n ≤ cfg1.N) (hz : n = 0) : PhiS V c n h = Phi0 c := by
  subst hz; rfl

/-- After point `n` (before point `n + 1`): the carried scratch at that point's contents. -/
theorem PhiS_succ (c : Dev nD) (n : ℕ) (hn : n < cfg1.N) :
    PhiS V c (n + 1) hn = iprop(iprop(owns (c : Thread nD τ) scM1_0 fullShare ((outsAt1 V c n hn).2)) ∗ (otherStages c ∗ (∃ r, prngReg c r))) := rfl

/-- Before a point that is not the first: the carried scratch at what the point before left. -/
theorem PhiS_pos (c : Dev nD) (n : ℕ) (h : n ≤ cfg1.N) (hz : n ≠ 0) :
    PhiS V c n h = iprop(iprop(owns (c : Thread nD τ) scM1_0 fullShare ((outsAt1 V c (n - 1) (by omega)).2)) ∗ (otherStages c ∗ (∃ r, prngReg c r))) := by
  cases n with
  | zero => exact absurd rfl hz
  | succ n => rfl

/-! ## The pipeline's proof data -/

/-- The proof data of the one pipeline on core `c`: the arrays as the region finds them (`V`); after the body at
    point `t` each input's buffer at its block and the outputs' at `outsAt1`; the invariant the class's
    (`PhiS`: the class's `ΦA` before the first point, then the scoped rest with the carried scratch at `outsAt1`'s component);
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS V c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq1 (c : Dev nD) (w : Fin cfg1.W) : (dat1 V c).A w = V c (Pipeline.arrRef spec1 w) := by
  dsimp only [dat1]

/-- The invariant at a point's start (the proof data at `t.castSucc`), restated at `t.val`. -/
theorem PhiS_castSucc (c : Dev nD) (t : Fin cfg1.N) :
    (dat1 V c).Φ t.castSucc = PhiS V c t.val (Nat.le_of_lt t.isLt) := by
  dsimp only [dat1]; exact Pipeline.Dat.Φ_castSucc (PhiS V c) t

/-- What the body leaves, window by window (the proof data's `match` reduced by `dsimp`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the inputs' memrefs hold their blocks (`before1_W`); the closed forms say which case the point is in (`by_cases`), an output the case reads before covering holds what the point before left (`before1_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS V c (t.val + 1) t.isLt from rfl, PhiS_succ]
  have hN : t.val < 168 := lt_of_lt_of_eq t.isLt (show cfg1.N = 168 from N_1)
  by_cases h0 : t.val % 7 = 0
  · by_cases h1 : t.val % 7 = 6
    · exfalso; omega
    · rw [show (dat1 V c).leavesExact 0 t = owns (c : Thread nD τ) (ms1_0 t) fullShare ((dat1 V c).after 0 t) from by
      unfold Dat.leavesExact; rw [liveAt1_0 t], after1_0]
      rw [show (dat1 V c).leavesExact 1 t = owns (c : Thread nD τ) (ms1_1 t) fullShare ((dat1 V c).after 1 t) from by
      unfold Dat.leavesExact; rw [liveAt1_1 t], after1_1]
      rw [Dat.leavesExact_idle (dat1 V c) 2 t (idleAt1_2_A t ((hcond1_0 t).mpr h0) (fun h => h1 ((hcond1_1 t).mp h))) (noFlush1_2_A t ((hcond1_0 t).mpr h0) (fun h => h1 ((hcond1_1 t).mp h)))]
      by_cases hz : t.val = 0
      · rw [PhiS_castSucc V c t, PhiS_zero V c _ _ hz, PhiA1_eq]
        rw [outsAt1_A V c t h0 h1]
        unfold sout1_A_0; (try dsimp only)
        iintro ⟨⟨HS0, Hg⟩, Ho, ⟨%d0, H0⟩, ⟨%d1, H1⟩, ⟨%d2, H2⟩⟩
        iapply ((kernelRun1_A c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hg]
        · isplitl [HS0]
          · unfold owns; iexists _; isplitr
            swap; · iexact HS0
            ipureintro; exact View.read_writes_of_cover _ _ _ _ _ (scover1_A_0 c _ _ _ _ _ _ _ _ _ _ _ _ _)
          iexact Hg
        isplitl [Ho]; · iexact Ho
        isplitl [H0]; · iexact H0
        isplitl [H1]; · iexact H1
        iexists _; iexact H2
      · rw [PhiS_castSucc V c t, PhiS_pos V c _ _ hz]
        rw [outsAt1_A V c t h0 h1]
        unfold sout1_A_0; (try dsimp only)
        iintro ⟨⟨HS0, Hg⟩, Ho, ⟨%d0, H0⟩, ⟨%d1, H1⟩, ⟨%d2, H2⟩⟩
        iapply ((kernelRun1_A c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 Hg]
        · isplitl [HS0]
          · unfold owns; iexists _; isplitr
            swap; · iexact HS0
            ipureintro; exact View.read_writes_of_cover _ _ _ _ _ (scover1_A_0 c _ _ _ _ _ _ _ _ _ _ _ _ _)
          iexact Hg
        isplitl [Ho]; · iexact Ho
        isplitl [H0]; · iexact H0
        isplitl [H1]; · iexact H1
        iexists _; iexact H2
  · by_cases h1 : t.val % 7 = 6
    · rw [show (dat1 V c).leavesExact 0 t = owns (c : Thread nD τ) (ms1_0 t) fullShare ((dat1 V c).after 0 t) from by
      unfold Dat.leavesExact; rw [liveAt1_0 t], after1_0]
      rw [show (dat1 V c).leavesExact 1 t = owns (c : Thread nD τ) (ms1_1 t) fullShare ((dat1 V c).after 1 t) from by
      unfold Dat.leavesExact; rw [liveAt1_1 t], after1_1]
      rw [show (dat1 V c).leavesExact 2 t = owns (c : Thread nD τ) (ms1_2 t) fullShare ((dat1 V c).after 2 t) from by
      unfold Dat.leavesExact; rw [liveAt1_2_C t (fun h => h0 ((hcond1_0 t).mp h)) ((hcond1_1 t).mpr h1)], after1_2]
      by_cases hz : t.val = 0
      · exfalso; have hN : t.val < 168 := lt_of_lt_of_eq t.isLt (show cfg1.N = 168 from N_1); omega
      · rw [PhiS_castSucc V c t, PhiS_pos V c _ _ hz]
        rw [outsAt1_C V c t h0 h1]
        unfold out1_C_2 sout1_C_0; (try dsimp only)
        iintro ⟨⟨HS0, Hg⟩, Ho, ⟨%d0, H0⟩, ⟨%d1, H1⟩, ⟨%d2, H2⟩⟩
        iapply ((kernelRun1_C c (grid1.coords t) _ _ _ _ _ _ _ _ (fun h => h0 ((hcond1_0 t).mp h)) ((hcond1_1 t).mpr h1) (iblk1 V c 0 t) (iblk1 V c 1 t) _).2.2 Set.univ _)
        isplitl [H0]; · iexact H0
        isplitl [H1]; · iexact H1
        isplitl [H2]; · iexists _; iexact H2
        isplitl [HS0]; · iexact HS0
        iintro ⟨H0, H1, ⟨%e2, H2⟩, ⟨%es0, HS0⟩⟩
        isplitl [HS0 Hg]
        · isplitl [HS0]
          · unfold owns; iexists _; isplitr
            swap; · iexact HS0
            ipureintro; exact View.read_writes_of_cover _ _ _ _ _ (scover1_C_0 c _ _ _ _ _ _ _ _ _ _ _ _ _ _)
          iexact Hg
        isplitl [Ho]; · iexact Ho
        isplitl [H0]; · iexact H0
        isplitl [H1]; · iexact H1
        unfold owns; iexists _; isplitr
        swap; · iexact H2
        ipureintro; exact View.read_writes_of_cover _ _ _ _ _ (cover1_C_2 c _ _ _ _ _ _ _ _ _ _ _ _ _ _)
    · rw [show (dat1 V c).leavesExact 0 t = owns (c : Thread nD τ) (ms1_0 t) fullShare ((dat1 V c).after 0 t) from by
      unfold Dat.leavesExact; rw [liveAt1_0 t], after1_0]
      rw [show (dat1 V c).leavesExact 1 t = owns (c : Thread nD τ) (ms1_1 t) fullShare ((dat1 V c).after 1 t) from by
      unfold Dat.leavesExact; rw [liveAt1_1 t], after1_1]
      rw [Dat.leavesExact_idle (dat1 V c) 2 t (idleAt1_2_B t (fun h => h0 ((hcond1_0 t).mp h)) (fun h => h1 ((hcond1_1 t).mp h))) (noFlush1_2_B t (fun h => h0 ((hcond1_0 t).mp h)) (fun h => h1 ((hcond1_1 t).mp h)))]
      by_cases hz : t.val = 0
      · exfalso; have hN : t.val < 168 := lt_of_lt_of_eq t.isLt (show cfg1.N = 168 from N_1); omega
      · rw [PhiS_castSucc V c t, PhiS_pos V c _ _ hz]
        rw [outsAt1_B V c t h0 h1]
        unfold sout1_B_0; (try dsimp only)
        iintro ⟨⟨HS0, Hg⟩, Ho, ⟨%d0, H0⟩, ⟨%d1, H1⟩, ⟨%d2, H2⟩⟩
        iapply ((kernelRun1_B c (grid1.coords t) _ _ _ _ _ _ _ _ (fun h => h0 ((hcond1_0 t).mp h)) (fun h => h1 ((hcond1_1 t).mp h)) (iblk1 V c 0 t) (iblk1 V c 1 t) _).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hg]
        · isplitl [HS0]
          · unfold owns; iexists _; isplitr
            swap; · iexact HS0
            ipureintro; exact View.read_writes_of_cover _ _ _ _ _ (scover1_B_0 c _ _ _ _ _ _ _ _ _ _ _ _ _ _)
          iexact Hg
        isplitl [Ho]; · iexact Ho
        isplitl [H0]; · iexact H0
        isplitl [H1]; · iexact H1
        iexists _; iexact H2

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

/-- What the launch hands the region (`ΦA`) is the invariant before the first point. -/
theorem hin1 (c : Dev nD) : Phi0 c ⊢ (dat1 V c).Φ 0 := by
  rw [show (dat1 V c).Φ 0 = PhiS V c 0 (Nat.zero_le _) from rfl, PhiS_zero V c 0 _ rfl]
  try exact Idealize.SL.BI.Entails.refl _

/-- After any point but the first the invariant gives `ΦA` back: the carried scratch's named contents are forgotten. -/
theorem Phi_out (c : Dev nD) (t : Fin (cfg1.N + 1)) (ht : t.val ≠ 0) : (dat1 V c).Φ t ⊢ Phi0 c := by
  rw [show (dat1 V c).Φ t = PhiS V c t.val (Nat.le_of_lt_succ t.isLt) from rfl, PhiS_pos V c _ _ ht, PhiA1_eq]
  iintro ⟨HS0, Hg⟩
  isplitl [HS0]
  · iexists _; iexact HS0
  iexact Hg

/-- The same after the last point. -/
theorem hout1 (c : Dev nD) : (dat1 V c).Φ (Fin.last cfg1.N) ⊢ Phi0 c :=
  Phi_out V c _ (by rw [Fin.val_last]; have : cfg1.N = 168 := N_1; omega)

end Cert.KernelIdeal.Whole

end
-- ==== Proof.KI.Run.lean ====
/- The run of the whole kernel program: both calls and the host stretches between them, from any memory. -/
module

public import proofs.«01_k».proof.Proof.KI.Weight
public import proofs.«01_k».proof.Proof.KI.Mat

@[expose] public section

-- membership in a rectangle of production extents (`View.cover_of_tiled`): the elaborator's structural look
-- recurses once per coordinate of the long axes
set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- @main's argument arrays, as TensorCore references: what the frame claim reads back. -/
abbrev argRefs : List (Ref sig .tc) := [main_arg0, main_arg1, main_arg2, main_arg3, main_arg4, main_arg5, main_arg6]

/-! ## The host stretches: none allocates a buffer, and each lists the references its operations write, in order,
    so that a reference absent from the list keeps its contents across the stretch (Lib/StableHlo/Run.lean
    `after_of_writes_sub`) -/

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v1]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v3]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-! ## The buffer contents at each segment boundary: a fold through @main, and what each item leaves unchanged -/

/-- Core `c`'s buffers at launch (region 0's entry). -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- The same read at the TensorCore's references (what region 0's proof data take). -/
abbrev V0 : (c : Dev nD) → (b : Ref sig .tc) → Buf (Elt F) ((c : Thread nD τ).loc b) := fun c b => W0 m ρ c b
/-- At region 0's exit: its arrays at what the pipeline leaves (the inputs as entered, each output's write-backs
    folded: `Dat.arrAt … N`), every other buffer as entered (Lib/Pipeline/FrameSuffix.lean `withArrays`). -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- A reference that is none of region 0's OUTPUT arrays keeps its entry contents across it: an input window's
    array is never written back (`Dat.arrAt_in`, `A_eq0`); any other buffer is left as is. -/
theorem W1_of (c : Dev nD) (r : Ref sig .tc) (h : ∀ w : Fin cfg0.W, Pipeline.arrRef spec0 w = r → (cfg0.win w).isOut = false) :
    W1 m ρ c (Proc.devRef .tc r) = W0 m ρ c (Proc.devRef .tc r) := by
  by_cases hw : ∃ w : Fin cfg0.W, Pipeline.arrRef spec0 w = r
  · obtain ⟨w, rfl⟩ := hw
    exact (W1_arr m ρ c w).trans (((dat0 (V0 m ρ) c).arrAt_in w (h w rfl) _).trans (A_eq0 (V0 m ρ) c w))
  · exact W1_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W1_args (c : Dev nD) : ∀ a ∈ argRefs, W1 m ρ c (Proc.devRef .tc a) = m ((c : Thread nD τ).loc a) :=
  fun a ha => (W1_of m ρ c a (argsIn0 a ha)).trans (W0_args m ρ c a ha)
/-- The same read at the TensorCore's references (region 0's exit contents). -/
abbrev V1 : (c : Dev nD) → (b : Ref sig .tc) → Buf (Elt F) ((c : Thread nD τ).loc b) := fun c b => W1 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After `hostOps1` (region 1's entry). -/
abbrev W2 : Dev nD → Valuation τ sig (Elt F) := fun c => StableHlo.after hostOps1 (W1 m ρ c)
/-- A reference `hostOps1` does not write keeps its contents across it. -/
theorem W2_of (c : Dev nD) (r : Ref sig .tc) (h : r ∉ hostOps1_W) : W2 m ρ c (Proc.devRef .tc r) = W1 m ρ c (Proc.devRef .tc r) :=
  StableHlo.after_of_writes_sub hostOps1 _ hostOps1_writes h
theorem W2_args (c : Dev nD) : ∀ a ∈ argRefs, W2 m ρ c (Proc.devRef .tc a) = m ((c : Thread nD τ).loc a) :=
  fun a ha => (W2_of m ρ c a (hostOps1_args a ha)).trans (W1_args m ρ c a ha)
/-- The same read at the TensorCore's references (what region 1's proof data take). -/
abbrev V2 : (c : Dev nD) → (b : Ref sig .tc) → Buf (Elt F) ((c : Thread nD τ).loc b) := fun c b => W2 m ρ c b
/-- At region 1's exit: its arrays at what the pipeline leaves (the inputs as entered, each output's write-backs
    folded: `Dat.arrAt … N`), every other buffer as entered (Lib/Pipeline/FrameSuffix.lean `withArrays`). -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- A reference that is none of region 1's OUTPUT arrays keeps its entry contents across it: an input window's
    array is never written back (`Dat.arrAt_in`, `A_eq1`); any other buffer is left as is. -/
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W3_args (c : Dev nD) : ∀ a ∈ argRefs, W3 m ρ c (Proc.devRef .tc a) = m ((c : Thread nD τ).loc a) :=
  fun a ha => (W3_of m ρ c a (argsIn1 a ha)).trans (W2_args m ρ c a ha)
/-- The same read at the TensorCore's references (region 1's exit contents). -/
abbrev V3 : (c : Dev nD) → (b : Ref sig .tc) → Buf (Elt F) ((c : Thread nD τ).loc b) := fun c b => W3 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After `hostOps2`. -/
abbrev W4 : Dev nD → Valuation τ sig (Elt F) := fun c => StableHlo.after hostOps2 (W3 m ρ c)
/-- A reference `hostOps2` does not write keeps its contents across it. -/
theorem W4_of (c : Dev nD) (r : Ref sig .tc) (h : r ∉ hostOps2_W) : W4 m ρ c (Proc.devRef .tc r) = W3 m ρ c (Proc.devRef .tc r) :=
  StableHlo.after_of_writes_sub hostOps2 _ hostOps2_writes h
theorem W4_args (c : Dev nD) : ∀ a ∈ argRefs, W4 m ρ c (Proc.devRef .tc a) = m ((c : Thread nD τ).loc a) :=
  fun a ha => (W4_of m ρ c a (hostOps2_args a ha)).trans (W3_args m ρ c a ha)

/-! ### The arguments end as launched: no host stretch writes one and no region may change one (a region reads it
    through an input window or bypasses it) -/

theorem W4_main_arg0 (c : Dev nD) : W4 m ρ c (Proc.devRef .tc main_arg0) = m ((c : Thread nD τ).loc main_arg0) :=
  W4_args m ρ c main_arg0 (by decide)
theorem W4_main_arg1 (c : Dev nD) : W4 m ρ c (Proc.devRef .tc main_arg1) = m ((c : Thread nD τ).loc main_arg1) :=
  W4_args m ρ c main_arg1 (by decide)
theorem W4_main_arg2 (c : Dev nD) : W4 m ρ c (Proc.devRef .tc main_arg2) = m ((c : Thread nD τ).loc main_arg2) :=
  W4_args m ρ c main_arg2 (by decide)
theorem W4_main_arg3 (c : Dev nD) : W4 m ρ c (Proc.devRef .tc main_arg3) = m ((c : Thread nD τ).loc main_arg3) :=
  W4_args m ρ c main_arg3 (by decide)
theorem W4_main_arg4 (c : Dev nD) : W4 m ρ c (Proc.devRef .tc main_arg4) = m ((c : Thread nD τ).loc main_arg4) :=
  W4_args m ρ c main_arg4 (by decide)
theorem W4_main_arg5 (c : Dev nD) : W4 m ρ c (Proc.devRef .tc main_arg5) = m ((c : Thread nD τ).loc main_arg5) :=
  W4_args m ρ c main_arg5 (by decide)
theorem W4_main_arg6 (c : Dev nD) : W4 m ρ c (Proc.devRef .tc main_arg6) = m ((c : Thread nD τ).loc main_arg6) :=
  W4_args m ρ c main_arg6 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W4`, the generator register at some state. -/
abbrev Tₙ (c : Dev nD) : sProp 𝕄 := iprop(StableHlo.held (c : Thread nD τ) (Pipeline.ucRefs τ sig) (W4 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W0`, left at `W1`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) (A_eq0 (V0 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W2`, left at `W3`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Phi0 c from rfl]
    refine BI.BIBase.Entails.trans ?_ (Phi0_of_scoped c)
    iintro ⟨Hp, -, Hr⟩
    isplitl [Hr]; · iexact Hr
    iexact Hp
  hout c := by
    rw [Pipeline.ownSems0_none]
    refine BI.BIBase.Entails.trans (hout1 (V2 m ρ) c) (BI.BIBase.Entails.trans (scoped_of_Phi0 c) ?_)
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 4 segments in order: a host segment per stretch from its boundary's contents, a region per pallas_call. -/
abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ),
    .host (hseg hostOps2 hostOps2_sub hostOps2_fresh (W3 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- THE RUN: from any memory with zero counters every execution of the whole program terminates, and every final state has
    the result array at the last boundary's contents, every argument array as launched, every semaphore counter at zero. -/
theorem runW : θ_run defs (onTc (τ := τ) (main (F := F))) ⟨m, fun _ => 0, ρ⟩ (fun r => (∀ c : Dev nD,
      r.2.mem ((c.tc : Thread nD τ).loc main_v3) = W4 m ρ c (Proc.devRef .tc main_v3)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨(fun c =>
      ⟨h c _ (mem_uc main_v3 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c)⟩), funext fun g => hz g (.inr (no_unscoped g.2))⟩)

/-- THE FRAME: the argument arrays end as launched and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => (h.1 c).2, h.2⟩) (runW m ρ)

end Cert.KernelIdeal.Whole

end
-- ==== Proof.KI.MatValue.lean ====
/- What the second call (the matmul) leaves in its result, at the extended reals: each entry is the whole sum over the
   contracted axis of the activations times the weights it was given. -/
module

public import proofs.«01_k».proof.Proof.KI.Mat
public import Idealize.ShloMosaic.Lib.Pipeline.ValueKit
public import Idealize.ShloMosaic.Lib.Pointwise

@[expose] public section

set_option maxRecDepth 16384

noncomputable section

namespace Cert.KernelIdeal.Whole

open Idealize.ShloMosaic Idealize.ShloMosaic.TcCoe Idealize.SL.Sem
open Cert.KernelIdeal.Gen
open Idealize.ShloMosaic.Pipeline (Dat)

variable (V : (c : Dev nD) → (b : Ref sig .tc) → Buf (Elt Ideal) ((c : Thread nD τ).loc b))

/-- One k block's share of the product, over the two input blocks of a grid point. -/
def part1 (x : Vec Ideal S1280x2048 .bf16) (w : Vec Ideal S2048x1024 .bf16) (j : S1280x1024.Idx) : EReal :=
  ∑ k : Fin 2048, x (ix2 (j 0) k) * w (ix2 k (j 1))

/-- The body adds its share to the accumulator. -/
theorem pay2_apply (acc : Vec Ideal S1280x1024 .f32) (x : Vec Ideal S1280x2048 .bf16) (w : Vec Ideal S2048x1024 .bf16)
    (j : S1280x1024.Idx) : k1_pay2 (F := Ideal) acc x w j = acc j + part1 x w j := by
  idx_vars j
  pointwise [k1_pay2, part1]

/-- The accumulator starts from zero. -/
theorem pay1_apply (j : S1280x1024.Idx) : k1_pay1 (F := Ideal) j = 0 := by
  idx_vars j
  pointwise [k1_pay1]

/-- The result block is the accumulator, its rounding the identity here. -/
theorem pay3_apply (acc : Vec Ideal S1280x1024 .f32) (j : S1280x1024.Idx) : k1_pay3 (F := Ideal) acc j = acc j := by
  idx_vars j
  pointwise [k1_pay3]

/-- The blocks of a grid point: row block `t / 28`, column block `t / 7 % 4`, k block `t % 7`. -/
theorem idx1 : ∀ t : Fin cfg1.N, win1_0.index t = ![t.val / 28, t.val % 7] ∧ win1_1.index t = ![t.val % 7, t.val / 7 % 4]
    ∧ win1_2.index t = ![t.val / 28, t.val / 7 % 4] :=
  (by decide +kernel : ∀ t : Fin grid1.N, _)

/-- The accumulator after the last k block of an output block: the sum of the seven shares. -/
theorem acc1 (c : Dev nD) (t : Fin cfg1.N) (h : t.val % 7 = 6) (j : S1280x1024.Idx) :
    (outsAt1 V c t.val t.isLt).1 j = 0 + ∑ s : Fin 7, part1 (iblk1 V c 0 ⟨7 * (t.val / 7) + s.val, Pipeline.run_point_lt_of_flush t h s⟩)
      (iblk1 V c 1 ⟨7 * (t.val / 7) + s.val, Pipeline.run_point_lt_of_flush t h s⟩) j := by
  have e : (outsAt1 V c t.val t.isLt).1 j = (outsAt1 V c t.val t.isLt).2 j := by
    rw [outsAt1_C V c t (by omega) h]; frame_out; rw [pay3_apply]
  rw [e]
  exact Pipeline.eq_sum_fin_of_reset_step_apply_of_flush (fun n h => (outsAt1 V c n h).2) 7 (fun _ => (0 : EReal))
    (fun t j => part1 (iblk1 V c 0 t) (iblk1 V c 1 t) j)
    (fun t h0 j => by
      rw [outsAt1_A V c t h0 (by omega)]; frame_out; rw [pay2_apply, pay1_apply])
    (fun t h0 j => by
      by_cases h1 : t.val % 7 = 6
      · rw [outsAt1_C V c t h0 h1]; frame_out; rw [pay2_apply, (Memref.isWhole_whole cc1_scratch0).read_unread]
      · rw [outsAt1_B V c t h0 h1]; frame_out; rw [pay2_apply, (Memref.isWhole_whole cc1_scratch0).read_unread]) t h j

/-- The product of the whole activations and the whole weights. -/
def prod1 (x : Vec Ideal S7680x14336 .bf16) (w : Vec Ideal S14336x4096 .bf16) (i : S7680x4096.Idx) : EReal :=
  ∑ k : Fin 14336, x (ix2 (i 0) k) * w (ix2 k (i 1))

/-- What is written back at the last k block of an output block is that block of the whole product. -/
theorem flushed1_2 (c : Dev nD) (t : Fin cfg1.N) (hf : (cfg1.win 2).flush t = true) :
    (dat1 V c).flushed 2 t = ((cfg1.win 2).blk t).view.read (Elt Ideal) (prod1 (V c main_v1) (V c main_v0)) := by
  have hm : t.val % 7 = 6 := (flush1_2 t).mp hf
  show (cfg1.win 2).cut (grid1.coords t) ((dat1 V c).after 2 t) = _
  rw [after1_2]
  funext y
  show (outsAt1 V c t.val t.isLt).1 ((cfg1.win 2).xinj (grid1.coords t) y) = prod1 (V c main_v1) (V c main_v0) (((cfg1.win 2).blk t).view.emb y)
  rw [acc1 V c t hm, zero_add]
  unfold part1 prod1
  have ht : t.val < 168 := lt_of_lt_of_eq t.isLt N_1
  refine Fin.sum_mul_add_congr fun s k hl => ?_
  obtain ⟨e0, e1, e2⟩ := idx1 ⟨7 * (t.val / 7) + s.val, Pipeline.run_point_lt_of_flush t hm s⟩
  obtain ⟨f0, f1, f2⟩ := idx1 t
  congr 1 <;> blk_ext [iblk1, e0, e1, f2]

/-- Every output block is written back at some point. -/
theorem onto1 : ∀ (q0 : Fin 6) (q1 : Fin 4), ∃ t : Fin cfg1.N, t.val % 7 = 6 ∧ t.val / 28 = q0.val ∧ t.val / 7 % 4 = q1.val :=
  fun q0 q1 => ⟨⟨7 * (4 * q0.val + q1.val) + 6, lt_of_lt_of_eq (by omega) N_1.symm⟩, by dsimp only; omega, by dsimp only; omega, by dsimp only; omega⟩

/-- THE MATMUL'S RESULT: the whole product of the activations and the weights it was given. -/
theorem mat_final (c : Dev nD) : (dat1 V c).arrAt 2 cfg1.N = prod1 (V c main_v1) (V c main_v0) :=
  (dat1 V c).arrAt_eq_of_cover 2 _ (fun t hf => flushed1_2 V c t hf) (fun (i : S7680x4096.Idx) => by
    have hi0 : (i 0).val < 7680 := (i 0).isLt
    have hi1 : (i 1).val < 4096 := (i 1).isLt
    obtain ⟨t, hm, h0, h1⟩ := onto1 ⟨(i 0).val / 1280, by omega⟩ ⟨(i 1).val / 1024, by omega⟩
    refine ⟨t, (flush1_2 t).mpr hm, ?_⟩
    show i ∈ ((View.whole main_v2).slice (win1_2.rect t)).set
    rw [View.set_slice_whole, Rect.mem_set_unit]
    obtain ⟨-, -, f2⟩ := idx1 t
    have g0 : win1_2.index t (0 : Fin 2) = t.val / 28 := congrFun f2 0
    have g1 : win1_2.index t (1 : Fin 2) = t.val / 7 % 4 := congrFun f2 1
    dsimp only at h0 h1
    intro a
    match a with
    | ⟨0, _⟩ => show win1_2.index t (0 : Fin 2) * 1280 ≤ (i 0).val ∧ (i 0).val < win1_2.index t (0 : Fin 2) * 1280 + 1280; omega
    | ⟨1, _⟩ => show win1_2.index t (1 : Fin 2) * 1024 ≤ (i 1).val ∧ (i 1).val < win1_2.index t (1 : Fin 2) * 1024 + 1024; omega)

end Cert.KernelIdeal.Whole

end
-- ==== Proof.KI.Decode.lean ====
/- The decoding of one four-bit code, at the extended reals, by the two programs: the kernel moves a nibble's bits into the
   fields of an e4m3 byte and applies the block's exponent as two halves, the reference reads the code's value off a table
   and multiplies by a power of two. -/
module

public import proofs.«01_k».proof.Proof.Gen.KernelIdeal.Skeleton
public import Idealize.ShloMosaic.Lib.BitcastFour
public import Idealize.ShloMosaic.Lib.Pointwise

@[expose] public section

set_option maxRecDepth 16384

noncomputable section

namespace Cert.Decode

open Idealize.ShloMosaic

/-! ## Words -/

/-- The kernel's word of four codes: the nibble's sign to bit 7 of its byte, its other three bits to bits 4, 3, 2; `u` is the
    left shift that brings the wanted nibble to the top half of its byte. -/
def nibWord (g u : BitVec 32) : BitVec 32 :=
  IntOp.ori (IntOp.andi (IntOp.shli .vector g u) 2155905152#32)
    (IntOp.andi (IntOp.shrsi .vector (IntOp.shli .vector g u) 2#32) 471604252#32)

/-- The e4m3 byte of a nibble: `s e e m` as `s 0 0 e e m 0 0`. -/
def e4 (n : BitVec 4) : BitVec 8 := ((n.setWidth 8 <<< 4) &&& 0x80#8) ||| ((n.setWidth 8 <<< 2) &&& 0x1C#8)

/-- The nibble of a byte that an even (`true`: the low one) or odd (`false`: the high one) column reads. -/
def nib (b : BitVec 8) : Bool → BitVec 4
  | true => b.extractLsb' 0 4
  | false => b.extractLsb' 4 4

/-- The shift an even or odd column takes. -/
def up : Bool → BitVec 32
  | true => 4#32
  | false => 0#32

/-- Byte `k` of the kernel's word is the e4m3 byte of that byte's nibble. -/
theorem nibWord_byte (g : BitVec 32) (b : BitVec 8) (p : Bool) (k i : ℕ) (hk : k < 4) (hi : i < 8)
    (hb : ∀ q, q < 8 → g.getLsbD (8 * k + q) = b.getLsbD q) :
    (nibWord g (up p)).getLsbD (8 * k + i) = (e4 (nib b p)).getLsbD i := by
  have h0 := hb 0 (by omega); have h1 := hb 1 (by omega); have h2 := hb 2 (by omega); have h3 := hb 3 (by omega)
  have h4 := hb 4 (by omega); have h5 := hb 5 (by omega); have h6 := hb 6 (by omega); have h7 := hb 7 (by omega)
  clear hb
  cases p <;> interval_cases k <;> interval_cases i <;>
    simp_all [nibWord, up, e4, nib, IntOp.ori, IntOp.andi, IntOp.shli, IntOp.shrsi, BitVec.getLsbD_sshiftRight, BitVec.getElem_sshiftRight, BitVec.sshiftRight']

/-! ## Scales -/

/-- The exponent byte less 121, as the kernel forms it. -/
def off (e : BitVec 8) : BitVec 32 := IntOp.subi (e.setWidth 32) 121#32
/-- Its lower half. -/
def half (e : BitVec 8) : BitVec 32 := IntOp.shrsi .vector (off e) 1#32
/-- The f32 word of two to the lower half. -/
def wordA (e : BitVec 8) : BitVec 32 := IntOp.shli .vector (IntOp.addi (half e) 127#32) 23#32
/-- The f32 word of two to the other half. -/
def wordB (e : BitVec 8) : BitVec 32 := IntOp.shli .vector (IntOp.addi (IntOp.subi (off e) (half e)) 127#32) 23#32

/-- The fields of the two scale words. -/
theorem fields : ∀ k : Fin 256,
    (wordA (BitVec.ofFin k)).extractLsb' 31 1 = 0#1 ∧ ((wordA (BitVec.ofFin k)).extractLsb' 0 23).toNat = 0
    ∧ ((wordA (BitVec.ofFin k)).extractLsb' 23 8).toNat = (k.val + 133) / 2
    ∧ (wordB (BitVec.ofFin k)).extractLsb' 31 1 = 0#1 ∧ ((wordB (BitVec.ofFin k)).extractLsb' 0 23).toNat = 0
    ∧ ((wordB (BitVec.ofFin k)).extractLsb' 23 8).toNat = (k.val + 134) / 2 := by decide +kernel

/-- An f32 word with a clear sign and fraction is the power of two of its exponent field. -/
theorem ofBits_pow (w : BitVec 32) (x : ℕ) (hs : w.extractLsb' 31 1 = 0#1) (hf : (w.extractLsb' 0 23).toNat = 0)
    (hx : (w.extractLsb' 23 8).toNat = x) (h0 : x ≠ 0) (h1 : x ≠ 255) :
    Ideal.ofBits .f32 w = (((2 : ℝ) ^ ((x : ℤ) - 127) : ℝ) : EReal) := by
  show Ideal.ieee 8 23 w = _
  unfold Ideal.ieee
  simp only [hs, hf, hx, h0, show (8 + 23 : ℕ) = 31 from rfl, show ¬ x = 2 ^ 8 - 1 by simpa using h1, if_false]
  congr 1
  norm_num
  rw [show ((x : ℤ) - 127 - 23) = ((x : ℤ) - 127) + (-23) by ring, zpow_add₀ (by norm_num : (2 : ℝ) ≠ 0)]
  norm_num
  ring

/-- The two scale words multiply to two to the exponent byte less 121. -/
theorem scale_mul (e : BitVec 8) : ∃ a b : ℝ, Ideal.ofBits .f32 (wordA e) = (a : EReal) ∧ Ideal.ofBits .f32 (wordB e) = (b : EReal)
    ∧ a * b = (2 : ℝ) ^ ((e.toNat : ℤ) - 121) := by
  have hk := e.isLt
  obtain ⟨a1, a2, a3, b1, b2, b3⟩ := fields e.toFin
  rw [show BitVec.ofFin e.toFin = e from rfl] at a1 a2 a3 b1 b2 b3
  rw [show (e.toFin.val) = e.toNat from rfl] at a3 b3
  generalize e.toNat = k at *
  refine ⟨_, _, ofBits_pow (wordA e) ((k + 133) / 2) a1 a2 a3 (by omega) (by omega),
    ofBits_pow (wordB e) ((k + 134) / 2) b1 b2 b3 (by omega) (by omega), ?_⟩
  rw [← zpow_add₀ (by norm_num : (2 : ℝ) ≠ 0)]
  refine congrArg (fun z : ℤ => (2 : ℝ) ^ z) ?_
  omega

/-! ## Values -/

/-- The value of a code: sign, then 0, 1/2, 1, 3/2, 2, 3, 4, 6. -/
def val (n : BitVec 4) : ℝ :=
  (if n.getLsbD 3 then -1 else 1) * (match n.toNat % 8 with | 0 => 0 | 1 => 1/2 | 2 => 1 | 3 => 3/2 | 4 => 2 | 5 => 3 | 6 => 4 | _ => 6)

/-- The e4m3 byte of a nibble denotes the code's value over 64. -/
theorem ofBits_e4 (n : BitVec 4) : Ideal.ofBits .fp8e4m3 (e4 n) = ((val n / 64 : ℝ) : EReal) := by
  show Ideal.e4m3fn (e4 n) = _
  obtain ⟨k⟩ := n
  fin_cases k <;> (unfold Ideal.e4m3fn; simp [e4, val]; try (first | norm_num; done | (rw [← EReal.coe_mul]; norm_num)))

/-- The kernel's three factors: the code's value times two to the exponent byte less 127. -/
theorem kernel_val (n : BitVec 4) (e : BitVec 8) :
    Ideal.ofBits .fp8e4m3 (e4 n) * Ideal.ofBits .f32 (wordA e) * Ideal.ofBits .f32 (wordB e)
      = ((val n * (2 : ℝ) ^ ((e.toNat : ℤ) - 127) : ℝ) : EReal) := by
  obtain ⟨a, b, ha, hb, hab⟩ := scale_mul e
  rw [ofBits_e4, ha, hb, ← EReal.coe_mul, ← EReal.coe_mul]
  congr 1
  rw [mul_assoc, hab, show ((e.toNat : ℤ) - 121) = ((e.toNat : ℤ) - 127) + 6 by ring, zpow_add₀ (by norm_num : (2 : ℝ) ≠ 0)]
  norm_num
  ring

end Cert.Decode

end
-- ==== Proof.KI.Tiles.lean ====
/- What the first call (the effective weight) stores for one grid point, at the extended reals, entry by entry: the decoded
   code times its block scale, plus the scaled product of the two low-rank factors. -/
module

public import proofs.«01_k».proof.Proof.KI.Decode
public import proofs.«01_k».proof.Proof.KI.Weight
public import Idealize.ShloMosaic.Lib.Pipeline.ValueKit

@[expose] public section

set_option maxRecDepth 16384

noncomputable section

namespace Cert.KernelIdeal.Whole

open Idealize.ShloMosaic Idealize.ShloMosaic.TcCoe Idealize.SL.Sem
open Cert.KernelIdeal.Gen Cert.Decode

/-! ## The four lane tiles of a word row -/

/-- Bit `q` of a word of codes is bit `q % 8` of the code byte in row `4a + q / 8`. -/
theorem words_bit (v0 : Vec Ideal S1024x256 .i8) (a : Fin 256) (c : Fin 256) (q : ℕ) (hq : q < 32) (p : Fin 1024)
    (hp : p.val = 4 * a.val + q / 8) : (k0_pay7 (F := Ideal) v0 (ix2 a c)).getLsbD q = (v0 (ix2 p c)).getLsbD (q % 8) := by
  unfold k0_pay7
  simp only [ix2_eq_valueIdx]
  exact bitcast_8_32_getLsbD_ix2 v0 _ a c q hq p hp

/-- A byte row of a tile of decoded words is the e4m3 byte of that row's nibble. -/
theorem tile_byte (v0 : Vec Ideal S1024x256 .i8) (W : IVec S256x128 32) (h : S256x128.Bitcasts 32 S1024x128 8) (r : Fin 1024)
    (l : Fin 128) (a c : Fin 256) (p : Bool) (ha : a.val = r.val / 4)
    (hW : W (ix2 a l) = nibWord (k0_pay7 (F := Ideal) v0 (ix2 a c)) (up p)) :
    bitcast S1024x128 8 W h (ix2 r l) = e4 (nib (v0 (ix2 r c)) p) := by
  apply BitVec.eq_of_getLsbD_eq
  intro i hi
  have hr : S1024x128.row (ix2 r l) = r.val := rfl
  have e1 : (S1024x128.row (ix2 r l) * 8 + i) / 32 = a.val := by rw [hr]; omega
  have e2 : (S1024x128.row (ix2 r l) * 8 + i) % 32 = 8 * (r.val % 4) + i := by rw [hr]; omega
  rw [bitcast_getLsbD W h (ix2 r l) i hi (by decide), e2,
    h.srcIdx_congr (ix2 r l) e1 _ (fun b hb => by
      have : b = 0 := by apply Fin.ext; change b.val + 2 = 2 at hb; show b.val = 0; omega
      subst this; exact a.isLt)]
  have hidx : h.srcIdx (ix2 r l) a.val (fun b hb => by
      have : b = 0 := by apply Fin.ext; change b.val + 2 = 2 at hb; show b.val = 0; omega
      subst this; exact a.isLt) = ix2 a l := by
    funext b
    match b with
    | ⟨0, _⟩ => exact Fin.ext (h.srcIdx_row _ _ _ ⟨0, Nat.zero_lt_two⟩ rfl)
    | ⟨1, _⟩ => exact Fin.ext (h.srcIdx_other _ _ _ ⟨1, Nat.one_lt_two⟩ (by show ¬ 1 + 2 = 2; omega))
  rw [hidx, hW]
  refine nibWord_byte _ _ p (r.val % 4) i (by omega) hi fun q hq => ?_
  rw [words_bit v0 a c (8 * (r.val % 4) + q) (by omega) r (by omega)]
  congr 1; omega

/-- The shift of a lane: 4 on the even lanes. -/
theorem pay8_apply (a : Fin 256) (l : Fin 128) : k0_pay8 (ix2 a l) = up (decide (l.val % 2 = 0)) := by
  pointwise [k0_pay8]
  revert l; decide +kernel

/-- The lane a tile of even number reads. -/
theorem lane0 (l : Fin 128) : (Scalar.select (IntOp.cmpi .slt (IntOp.addi (IntOp.shrsi .vector (BitVec.ofNat 32 l.val) 1#32) 0#32) 0#32)
    (IntOp.addi (IntOp.addi (IntOp.shrsi .vector (BitVec.ofNat 32 l.val) 1#32) 0#32) 128#32)
    (IntOp.addi (IntOp.shrsi .vector (BitVec.ofNat 32 l.val) 1#32) 0#32)).toNat % 128 = l.val / 2 := by
  revert l; decide +kernel

/-- The lane a tile of odd number reads. -/
theorem lane1 (l : Fin 128) : (Scalar.select (IntOp.cmpi .slt (IntOp.addi (IntOp.shrsi .vector (BitVec.ofNat 32 l.val) 1#32) 64#32) 0#32)
    (IntOp.addi (IntOp.addi (IntOp.shrsi .vector (BitVec.ofNat 32 l.val) 1#32) 64#32) 128#32)
    (IntOp.addi (IntOp.shrsi .vector (BitVec.ofNat 32 l.val) 1#32) 64#32)).toNat % 128 = 64 + l.val / 2 := by
  revert l; decide +kernel

/-- The decoded entry of row `r`, weight column `C`: column `C / 2` of the codes, low nibble if `C` is even. -/
def dec (v0 : Vec Ideal S1024x256 .i8) (r : Fin 1024) (C : ℕ) (hC : C < 512) : EReal :=
  Ideal.ofBits .fp8e4m3 (e4 (nib (v0 (ix2 r ⟨C / 2, by omega⟩)) (decide (C % 2 = 0))))

/-- The same with the column and the parity named. -/
theorem dec_eq (v0 : Vec Ideal S1024x256 .i8) (r : Fin 1024) (C : ℕ) (hC : C < 512) (c : Fin 256) (l : ℕ) (hc : c.val = C / 2)
    (hl : l % 2 = C % 2) : dec v0 r C hC = Ideal.ofBits .fp8e4m3 (e4 (nib (v0 (ix2 r c)) (decide (l % 2 = 0)))) := by
  have e : c = ⟨C / 2, by omega⟩ := Fin.ext hc
  rw [e, hl]; rfl

/-- Columns 0 to 127. -/
theorem tile0 (v0 : Vec Ideal S1024x256 .i8) (r : Fin 1024) (l : Fin 128) :
    k0_pay9 (F := Ideal) v0 (ix2 r l) = dec v0 r l.val (by omega) := by
  pointwise [k0_pay9]
  rw [dec_eq v0 r l.val (by omega) ⟨l.val / 2, by omega⟩ l.val rfl rfl,
    tile_byte v0 _ _ r l ⟨r.val / 4, by omega⟩ ⟨l.val / 2, by omega⟩ (decide (l.val % 2 = 0)) rfl]
  pointwise [nibWord]
  simp only [lane0, pay8_apply]

/-- Columns 128 to 255. -/
theorem tile1 (v0 : Vec Ideal S1024x256 .i8) (r : Fin 1024) (l : Fin 128) :
    k0_pay13 (F := Ideal) k0_pay8 (k0_pay10 (F := Ideal) v0) k0_pay11 k0_pay12 (ix2 r l) = dec v0 r (128 + l.val) (by omega) := by
  pointwise [k0_pay13]
  rw [dec_eq v0 r (128 + l.val) (by omega) ⟨64 + l.val / 2, by omega⟩ l.val (by dsimp only; omega) (by omega),
    tile_byte v0 _ _ r l ⟨r.val / 4, by omega⟩ ⟨64 + l.val / 2, by omega⟩ (decide (l.val % 2 = 0)) rfl]
  pointwise [nibWord, k0_pay10, k0_pay11, k0_pay12]
  simp only [lane1, pay8_apply]

/-- Columns 256 to 383. -/
theorem tile2 (v0 : Vec Ideal S1024x256 .i8) (r : Fin 1024) (l : Fin 128) :
    k0_pay14 (F := Ideal) (k0_pay7 (F := Ideal) v0) (iota .tc S256x128 32 [1] iota_S256x128_d1_w32) k0_pay8 (ix2 r l)
      = dec v0 r (256 + l.val) (by omega) := by
  pointwise [k0_pay14]
  rw [dec_eq v0 r (256 + l.val) (by omega) ⟨128 + l.val / 2, by omega⟩ l.val (by dsimp only; omega) (by omega),
    tile_byte v0 _ _ r l ⟨r.val / 4, by omega⟩ ⟨128 + l.val / 2, by omega⟩ (decide (l.val % 2 = 0)) rfl]
  pointwise [nibWord]
  simp only [lane0, pay8_apply]

/-- The words of columns 384 to 511. -/
theorem word3 (v0 : Vec Ideal S1024x256 .i8) (a : Fin 256) (l : Fin 128) :
    (ori
      (andi (shli (dynamicGather 1 (k0_pay15 (k0_pay7 (F := Ideal) v0)) (select (k0_pay17 (iota .tc S256x128 32 [1] iota_S256x128_d1_w32))
          (addi (k0_pay16 (iota .tc S256x128 32 [1] iota_S256x128_d1_w32)) (broadcast S256x128 128#32))
          (k0_pay16 (iota .tc S256x128 32 [1] iota_S256x128_d1_w32)))) k0_pay8) (broadcast S256x128 2155905152#32))
      (andi (shrsi (shli (dynamicGather 1 (k0_pay15 (k0_pay7 (F := Ideal) v0)) (select (k0_pay17 (iota .tc S256x128 32 [1] iota_S256x128_d1_w32))
          (addi (k0_pay16 (iota .tc S256x128 32 [1] iota_S256x128_d1_w32)) (broadcast S256x128 128#32))
          (k0_pay16 (iota .tc S256x128 32 [1] iota_S256x128_d1_w32)))) k0_pay8) (broadcast S256x128 2#32)) (broadcast S256x128 471604252#32)))
      (ix2 a l)
    = nibWord (k0_pay7 (F := Ideal) v0 (ix2 a ⟨128 + (64 + l.val / 2), by omega⟩)) (up (decide (l.val % 2 = 0))) := by
  pointwise [nibWord, k0_pay15, k0_pay16, k0_pay17]
  simp only [lane1, pay8_apply]

/-- The four tiles side by side, read at a column. -/
theorem four_tiles (v0 : Vec Ideal S1024x256 .i8) (v11 v78 v82 : IVec S256x128 32) (v33 v55 v77 : FVec Ideal S1024x128 .fp8e4m3)
    (v84 : IVec S256x128 1) (r : Fin 1024)
    (h0 : ∀ l : Fin 128, v33 (ix2 r l) = dec v0 r l.val (by omega))
    (h1 : ∀ l : Fin 128, v55 (ix2 r l) = dec v0 r (128 + l.val) (by omega))
    (h2 : ∀ l : Fin 128, v77 (ix2 r l) = dec v0 r (256 + l.val) (by omega))
    (h3 : ∀ (a : Fin 256) (l : Fin 128), (ori
      (andi (shli (dynamicGather 1 v78 (select v84 (addi v82 (broadcast S256x128 128#32)) v82)) v11) (broadcast S256x128 2155905152#32))
      (andi (shrsi (shli (dynamicGather 1 v78 (select v84 (addi v82 (broadcast S256x128 128#32)) v82)) v11) (broadcast S256x128 2#32))
        (broadcast S256x128 471604252#32))) (ix2 a l)
      = nibWord (k0_pay7 (F := Ideal) v0 (ix2 a ⟨128 + (64 + l.val / 2), by omega⟩)) (up (decide (l.val % 2 = 0))))
    (C : ℕ) (hC : C < 512) :
    k0_pay18 (F := Ideal) v11 v33 v55 v77 v78 v82 v84 128#32 (ix2 r ⟨C, hC⟩) = dec v0 r C hC := by
  pointwise [k0_pay18]
  by_cases g0 : C < 128
  · rw [dif_pos g0, h0]
  rw [dif_neg g0]
  by_cases g1 : C - 128 < 128
  · rw [dif_pos g1, h1]; simp only [show 128 + (C - 128) = C from by omega]
  rw [dif_neg g1]
  by_cases g2 : C - 128 - 128 < 128
  · rw [dif_pos g2, h2]; simp only [show 256 + (C - 128 - 128) = C from by omega]
  have gl : C - 128 - 128 - 128 < 128 := by omega
  rw [dif_neg g2, dec_eq v0 r C hC ⟨128 + (64 + (C - 128 - 128 - 128) / 2), by omega⟩ (C - 128 - 128 - 128) (by dsimp only; omega) (by omega)]
  exact congrArg (Ideal.ofBits .fp8e4m3) (tile_byte v0 _ _ r ⟨C - 128 - 128 - 128, gl⟩ ⟨r.val / 4, by omega⟩ _
      (decide ((C - 128 - 128 - 128) % 2 = 0)) rfl (h3 _ ⟨C - 128 - 128 - 128, gl⟩))

/-- The whole row of decoded entries. -/
theorem decoded (v0 : Vec Ideal S1024x256 .i8) (r : Fin 1024) (C : ℕ) (hC : C < 512) :
    k0_pay18 (F := Ideal) k0_pay8 (k0_pay9 (F := Ideal) v0) (k0_pay13 (F := Ideal) k0_pay8 (k0_pay10 (F := Ideal) v0) k0_pay11 k0_pay12)
      (k0_pay14 (F := Ideal) (k0_pay7 (F := Ideal) v0) (iota .tc S256x128 32 [1] iota_S256x128_d1_w32) k0_pay8)
      (k0_pay15 (k0_pay7 (F := Ideal) v0)) (k0_pay16 (iota .tc S256x128 32 [1] iota_S256x128_d1_w32))
      (k0_pay17 (iota .tc S256x128 32 [1] iota_S256x128_d1_w32)) 128#32 (ix2 r ⟨C, hC⟩) = dec v0 r C hC :=
  four_tiles v0 _ _ _ _ _ _ _ r (tile0 v0 r) (tile1 v0 r) (tile2 v0 r) (word3 v0) C hC

end Cert.KernelIdeal.Whole

end
-- ==== Proof.KI.Rows.lean ====
/- The 32 row blocks of the scaled decoded weight, one on top of the other, read at a row. -/
module

public import proofs.«01_k».proof.Proof.KI.Tiles
public import Idealize.ShloMosaic.Lib.Pipeline.Value

@[expose] public section

set_option maxRecDepth 16384

noncomputable section

namespace Cert.KernelIdeal.Whole

open Idealize.ShloMosaic Idealize.ShloMosaic.TcCoe Idealize.SL.Sem
open Cert.KernelIdeal.Gen Cert.Decode

/-- Thirty-two blocks of 32 rows, one on top of the other, read at row `R`: block `R / 32` at its row `R % 32`. -/
theorem cat32 (p0 p1 p2 p3 p4 p5 p6 p7 p8 p9 p10 p11 p12 p13 p14 p15 p16 p17 p18 p19 p20 p21 p22 p23 p24 p25 p26 p27 p28 p29 p30 p31 : FVec Ideal S32x512 .f32) (Q : Fin 32 → Fin 32 → EReal) (C : Fin 512)
    (h0 : ∀ r : Fin 32, p0 (ix2 r C) = Q 0 r)
    (h1 : ∀ r : Fin 32, p1 (ix2 r C) = Q 1 r)
    (h2 : ∀ r : Fin 32, p2 (ix2 r C) = Q 2 r)
    (h3 : ∀ r : Fin 32, p3 (ix2 r C) = Q 3 r)
    (h4 : ∀ r : Fin 32, p4 (ix2 r C) = Q 4 r)
    (h5 : ∀ r : Fin 32, p5 (ix2 r C) = Q 5 r)
    (h6 : ∀ r : Fin 32, p6 (ix2 r C) = Q 6 r)
    (h7 : ∀ r : Fin 32, p7 (ix2 r C) = Q 7 r)
    (h8 : ∀ r : Fin 32, p8 (ix2 r C) = Q 8 r)
    (h9 : ∀ r : Fin 32, p9 (ix2 r C) = Q 9 r)
    (h10 : ∀ r : Fin 32, p10 (ix2 r C) = Q 10 r)
    (h11 : ∀ r : Fin 32, p11 (ix2 r C) = Q 11 r)
    (h12 : ∀ r : Fin 32, p12 (ix2 r C) = Q 12 r)
    (h13 : ∀ r : Fin 32, p13 (ix2 r C) = Q 13 r)
    (h14 : ∀ r : Fin 32, p14 (ix2 r C) = Q 14 r)
    (h15 : ∀ r : Fin 32, p15 (ix2 r C) = Q 15 r)
    (h16 : ∀ r : Fin 32, p16 (ix2 r C) = Q 16 r)
    (h17 : ∀ r : Fin 32, p17 (ix2 r C) = Q 17 r)
    (h18 : ∀ r : Fin 32, p18 (ix2 r C) = Q 18 r)
    (h19 : ∀ r : Fin 32, p19 (ix2 r C) = Q 19 r)
    (h20 : ∀ r : Fin 32, p20 (ix2 r C) = Q 20 r)
    (h21 : ∀ r : Fin 32, p21 (ix2 r C) = Q 21 r)
    (h22 : ∀ r : Fin 32, p22 (ix2 r C) = Q 22 r)
    (h23 : ∀ r : Fin 32, p23 (ix2 r C) = Q 23 r)
    (h24 : ∀ r : Fin 32, p24 (ix2 r C) = Q 24 r)
    (h25 : ∀ r : Fin 32, p25 (ix2 r C) = Q 25 r)
    (h26 : ∀ r : Fin 32, p26 (ix2 r C) = Q 26 r)
    (h27 : ∀ r : Fin 32, p27 (ix2 r C) = Q 27 r)
    (h28 : ∀ r : Fin 32, p28 (ix2 r C) = Q 28 r)
    (h29 : ∀ r : Fin 32, p29 (ix2 r C) = Q 29 r)
    (h30 : ∀ r : Fin 32, p30 (ix2 r C) = Q 30 r)
    (h31 : ∀ r : Fin 32, p31 (ix2 r C) = Q 31 r)
    (R : ℕ) (hR : R < 1024) :
    concatenate S1024x512 0 [⟨S32x512, p0⟩, ⟨S32x512, p1⟩, ⟨S32x512, p2⟩, ⟨S32x512, p3⟩, ⟨S32x512, p4⟩, ⟨S32x512, p5⟩, ⟨S32x512, p6⟩, ⟨S32x512, p7⟩, ⟨S32x512, p8⟩, ⟨S32x512, p9⟩, ⟨S32x512, p10⟩, ⟨S32x512, p11⟩, ⟨S32x512, p12⟩, ⟨S32x512, p13⟩, ⟨S32x512, p14⟩, ⟨S32x512, p15⟩, ⟨S32x512, p16⟩, ⟨S32x512, p17⟩, ⟨S32x512, p18⟩, ⟨S32x512, p19⟩, ⟨S32x512, p20⟩, ⟨S32x512, p21⟩, ⟨S32x512, p22⟩, ⟨S32x512, p23⟩, ⟨S32x512, p24⟩, ⟨S32x512, p25⟩, ⟨S32x512, p26⟩, ⟨S32x512, p27⟩, ⟨S32x512, p28⟩, ⟨S32x512, p29⟩, ⟨S32x512, p30⟩, ⟨S32x512, p31⟩] concatenates_S32x512_S32x512_S32x512_S32x512_S32x512_S32x512_S32x512_S32x512_S32x512_S32x512_S32x512_S32x512_S32x512_S32x512_S32x512_S32x512_S32x512_S32x512_S32x512_S32x512_S32x512_S32x512_S32x512_S32x512_S32x512_S32x512_S32x512_S32x512_S32x512_S32x512_S32x512_S32x512_S1024x512_d0 (ix2 ⟨R, hR⟩ C)
      = Q ⟨R / 32, by omega⟩ ⟨R % 32, by omega⟩ := by
  let f : Fin 32 → FVec Ideal S32x512 .f32 := ![p0, p1, p2, p3, p4, p5, p6, p7, p8, p9, p10, p11, p12, p13, p14, p15, p16, p17, p18, p19, p20, p21, p22, p23, p24, p25, p26, p27, p28, p29, p30, p31]
  have hf : ∀ n r, f n (ix2 r C) = Q n r := fun n => match n with
    | ⟨0, _⟩ => h0
    | ⟨1, _⟩ => h1
    | ⟨2, _⟩ => h2
    | ⟨3, _⟩ => h3
    | ⟨4, _⟩ => h4
    | ⟨5, _⟩ => h5
    | ⟨6, _⟩ => h6
    | ⟨7, _⟩ => h7
    | ⟨8, _⟩ => h8
    | ⟨9, _⟩ => h9
    | ⟨10, _⟩ => h10
    | ⟨11, _⟩ => h11
    | ⟨12, _⟩ => h12
    | ⟨13, _⟩ => h13
    | ⟨14, _⟩ => h14
    | ⟨15, _⟩ => h15
    | ⟨16, _⟩ => h16
    | ⟨17, _⟩ => h17
    | ⟨18, _⟩ => h18
    | ⟨19, _⟩ => h19
    | ⟨20, _⟩ => h20
    | ⟨21, _⟩ => h21
    | ⟨22, _⟩ => h22
    | ⟨23, _⟩ => h23
    | ⟨24, _⟩ => h24
    | ⟨25, _⟩ => h25
    | ⟨26, _⟩ => h26
    | ⟨27, _⟩ => h27
    | ⟨28, _⟩ => h28
    | ⟨29, _⟩ => h29
    | ⟨30, _⟩ => h30
    | ⟨31, _⟩ => h31
    | ⟨n + 32, h⟩ => absurd h (by omega)
  refine (concatenate_ofFn_apply (t := S1024x512) (s₁ := S32x512) 0 f concatenates_S32x512_S32x512_S32x512_S32x512_S32x512_S32x512_S32x512_S32x512_S32x512_S32x512_S32x512_S32x512_S32x512_S32x512_S32x512_S32x512_S32x512_S32x512_S32x512_S32x512_S32x512_S32x512_S32x512_S32x512_S32x512_S32x512_S32x512_S32x512_S32x512_S32x512_S32x512_S32x512_S1024x512_d0 rfl 32 rfl (ix2 ⟨R, hR⟩ C)
    ⟨R / 32, by omega⟩ rfl (ix2 ⟨R % 32, by omega⟩ C) rfl (fun b hb => ?_)).trans (hf _ _)
  match b with
  | ⟨0, _⟩ => exact absurd rfl hb
  | ⟨1, _⟩ => rfl

end Cert.KernelIdeal.Whole

end
-- ==== Proof.KI.Blocks.lean ====
/- Each of the 32 row blocks of the scaled decoded weight, entry by entry: 32 rows of the decoded entries times the two
   scale factors of the block. -/
module

public import proofs.«01_k».proof.Proof.KI.Tiles

@[expose] public section

set_option maxRecDepth 16384

noncomputable section

namespace Cert.KernelIdeal.Whole

open Idealize.ShloMosaic Idealize.ShloMosaic.TcCoe Idealize.SL.Sem
open Cert.KernelIdeal.Gen

variable (a : FVec Ideal S1024x512 .f32) (b c : FVec Ideal S32x512 .f32)
variable (v2 : IVec S32x512 32) (v11 v78 v82 : IVec S256x128 32) (v33 v55 v77 : FVec Ideal S1024x128 .fp8e4m3) (v84 : IVec S256x128 1)

/-- Row block `q`: its entries times the two scale factors of its row of scales. -/
def scaled (q : Fin 32) (r : Fin 32) (l : Fin 512) : EReal :=
  a (ix2 ⟨32 * q.val + r.val, by omega⟩ l) * b (ix2 q l) * c (ix2 q l)

/-- Block 0. -/
theorem block0 (l : Fin 512) (r : Fin 32) : k0_pay23 (F := Ideal) v2 v11 v33 v55 v77 v78 v82 v84 128#32 (ix2 r l) = scaled (k0_pay18 (F := Ideal) v11 v33 v55 v77 v78 v82 v84 128#32) (k0_pay21 (F := Ideal) v2) (k0_pay22 (F := Ideal) v2) 0 r l := by
  pointwise [k0_pay23, scaled]

/-- Block 1. -/
theorem block1 (l : Fin 512) (r : Fin 32) : k0_pay24 (F := Ideal) v2 v11 v33 v55 v77 v78 v82 v84 128#32 (ix2 r l) = scaled (k0_pay18 (F := Ideal) v11 v33 v55 v77 v78 v82 v84 128#32) (k0_pay21 (F := Ideal) v2) (k0_pay22 (F := Ideal) v2) 1 r l := by
  pointwise [k0_pay24, scaled]

/-- Block 2. -/
theorem block2 (l : Fin 512) (r : Fin 32) : k0_pay27 (F := Ideal) (k0_pay25 (F := Ideal) v2 v11 v33 v55 v77 v78 v82 v84 128#32) (k0_pay26 (F := Ideal) v2) (ix2 r l) = scaled (k0_pay18 (F := Ideal) v11 v33 v55 v77 v78 v82 v84 128#32) (k0_pay21 (F := Ideal) v2) (k0_pay22 (F := Ideal) v2) 2 r l := by
  pointwise [k0_pay27, k0_pay25, k0_pay26, scaled]

/-- Block 3. -/
theorem block3 (l : Fin 512) (r : Fin 32) : k0_pay28 (F := Ideal) a b c (ix2 r l) = scaled a b c 3 r l := by
  pointwise [k0_pay28, scaled]

/-- Block 4. -/
theorem block4 (l : Fin 512) (r : Fin 32) : k0_pay29 (F := Ideal) a b c (ix2 r l) = scaled a b c 4 r l := by
  pointwise [k0_pay29, scaled]

/-- Block 5. -/
theorem block5 (l : Fin 512) (r : Fin 32) : k0_pay30 (F := Ideal) a b c (ix2 r l) = scaled a b c 5 r l := by
  pointwise [k0_pay30, scaled]

/-- Block 6. -/
theorem block6 (l : Fin 512) (r : Fin 32) : k0_pay31 (F := Ideal) a b c (ix2 r l) = scaled a b c 6 r l := by
  pointwise [k0_pay31, scaled]

/-- Block 7. -/
theorem block7 (l : Fin 512) (r : Fin 32) : k0_pay32 (F := Ideal) a b c (ix2 r l) = scaled a b c 7 r l := by
  pointwise [k0_pay32, scaled]

/-- Block 8. -/
theorem block8 (l : Fin 512) (r : Fin 32) : k0_pay33 (F := Ideal) a b c (ix2 r l) = scaled a b c 8 r l := by
  pointwise [k0_pay33, scaled]

/-- Block 9. -/
theorem block9 (l : Fin 512) (r : Fin 32) : k0_pay34 (F := Ideal) a b c (ix2 r l) = scaled a b c 9 r l := by
  pointwise [k0_pay34, scaled]

/-- Block 10. -/
theorem block10 (l : Fin 512) (r : Fin 32) : k0_pay35 (F := Ideal) a b c (ix2 r l) = scaled a b c 10 r l := by
  pointwise [k0_pay35, scaled]

/-- Block 11. -/
theorem block11 (l : Fin 512) (r : Fin 32) : k0_pay38 (F := Ideal) c (k0_pay36 (F := Ideal) a) (k0_pay37 (F := Ideal) b) (ix2 r l) = scaled a b c 11 r l := by
  pointwise [k0_pay38, k0_pay36, k0_pay37, scaled]

/-- Block 12. -/
theorem block12 (l : Fin 512) (r : Fin 32) : k0_pay39 (F := Ideal) a b c (ix2 r l) = scaled a b c 12 r l := by
  pointwise [k0_pay39, scaled]

/-- Block 13. -/
theorem block13 (l : Fin 512) (r : Fin 32) : k0_pay40 (F := Ideal) a b c (ix2 r l) = scaled a b c 13 r l := by
  pointwise [k0_pay40, scaled]

/-- Block 14. -/
theorem block14 (l : Fin 512) (r : Fin 32) : k0_pay41 (F := Ideal) a b c (ix2 r l) = scaled a b c 14 r l := by
  pointwise [k0_pay41, scaled]

/-- Block 15. -/
theorem block15 (l : Fin 512) (r : Fin 32) : k0_pay42 (F := Ideal) a b c (ix2 r l) = scaled a b c 15 r l := by
  pointwise [k0_pay42, scaled]

/-- Block 16. -/
theorem block16 (l : Fin 512) (r : Fin 32) : k0_pay43 (F := Ideal) a b c (ix2 r l) = scaled a b c 16 r l := by
  pointwise [k0_pay43, scaled]

/-- Block 17. -/
theorem block17 (l : Fin 512) (r : Fin 32) : k0_pay44 (F := Ideal) a b c (ix2 r l) = scaled a b c 17 r l := by
  pointwise [k0_pay44, scaled]

/-- Block 18. -/
theorem block18 (l : Fin 512) (r : Fin 32) : k0_pay45 (F := Ideal) a b c (ix2 r l) = scaled a b c 18 r l := by
  pointwise [k0_pay45, scaled]

/-- Block 19. -/
theorem block19 (l : Fin 512) (r : Fin 32) : k0_pay48 (F := Ideal) (k0_pay46 (F := Ideal) a b) (k0_pay47 (F := Ideal) c) (ix2 r l) = scaled a b c 19 r l := by
  pointwise [k0_pay48, k0_pay46, k0_pay47, scaled]

/-- Block 20. -/
theorem block20 (l : Fin 512) (r : Fin 32) : k0_pay49 (F := Ideal) a b c (ix2 r l) = scaled a b c 20 r l := by
  pointwise [k0_pay49, scaled]

/-- Block 21. -/
theorem block21 (l : Fin 512) (r : Fin 32) : k0_pay50 (F := Ideal) a b c (ix2 r l) = scaled a b c 21 r l := by
  pointwise [k0_pay50, scaled]

/-- Block 22. -/
theorem block22 (l : Fin 512) (r : Fin 32) : k0_pay51 (F := Ideal) a b c (ix2 r l) = scaled a b c 22 r l := by
  pointwise [k0_pay51, scaled]

/-- Block 23. -/
theorem block23 (l : Fin 512) (r : Fin 32) : k0_pay52 (F := Ideal) a b c (ix2 r l) = scaled a b c 23 r l := by
  pointwise [k0_pay52, scaled]

/-- Block 24. -/
theorem block24 (l : Fin 512) (r : Fin 32) : k0_pay53 (F := Ideal) a b c (ix2 r l) = scaled a b c 24 r l := by
  pointwise [k0_pay53, scaled]

/-- Block 25. -/
theorem block25 (l : Fin 512) (r : Fin 32) : k0_pay54 (F := Ideal) a b c (ix2 r l) = scaled a b c 25 r l := by
  pointwise [k0_pay54, scaled]

/-- Block 26. -/
theorem block26 (l : Fin 512) (r : Fin 32) : k0_pay55 (F := Ideal) a b c (ix2 r l) = scaled a b c 26 r l := by
  pointwise [k0_pay55, scaled]

/-- Block 27. -/
theorem block27 (l : Fin 512) (r : Fin 32) : k0_pay56 (F := Ideal) a b c (ix2 r l) = scaled a b c 27 r l := by
  pointwise [k0_pay56, scaled]

/-- Block 28. -/
theorem block28 (l : Fin 512) (r : Fin 32) : k0_pay1 (F := Ideal) c (k0_pay57 (F := Ideal) a) (k0_pay58 (F := Ideal) b) (ix2 r l) = scaled a b c 28 r l := by
  pointwise [k0_pay1, k0_pay57, k0_pay58, scaled]

/-- Block 29. -/
theorem block29 (l : Fin 512) (r : Fin 32) : k0_pay2 (F := Ideal) a b c (ix2 r l) = scaled a b c 29 r l := by
  pointwise [k0_pay2, scaled]

/-- Block 30. -/
theorem block30 (l : Fin 512) (r : Fin 32) : k0_pay3 (F := Ideal) a b c (ix2 r l) = scaled a b c 30 r l := by
  pointwise [k0_pay3, scaled]

/-- Block 31. -/
theorem block31 (l : Fin 512) (r : Fin 32) : k0_pay4 (F := Ideal) a b c (ix2 r l) = scaled a b c 31 r l := by
  pointwise [k0_pay4, scaled]

end Cert.KernelIdeal.Whole

end
-- ==== Proof.KI.WeightBlock.lean ====
/- The block the first call (the effective weight) leaves at one grid point, at the extended reals, entry by entry: the
   value of the code times two to its block's exponent, plus the scaled product of the two low-rank factors. -/
module

public import proofs.«01_k».proof.Proof.KI.Rows
public import proofs.«01_k».proof.Proof.KI.Blocks

@[expose] public section

set_option maxRecDepth 16384

noncomputable section

namespace Cert.KernelIdeal.Whole

open Idealize.ShloMosaic Idealize.ShloMosaic.TcCoe Idealize.SL.Sem
open Cert.KernelIdeal.Gen Cert.Decode

/-- One weight entry, from the code's nibble `n`, its exponent byte `e`, a row and a column of each factor pair. -/
def entry (n : BitVec 4) (e : BitVec 8) (u1 v1 u2 v2 : Fin 32 → EReal) : EReal :=
  ((val n * (2 : ℝ) ^ ((e.toNat : ℤ) - 127) : ℝ) : EReal)
    + (Ideal.ofBits .f32 1040187392#32 * ∑ x, u1 x * v1 x) * ∑ x, u2 x * v2 x

/-- The first scale factor of a block. -/
theorem pay21_apply (x1 : Vec Ideal S32x512 .i8) (q : Fin 32) (l : Fin 512) :
    k0_pay21 (F := Ideal) (k0_pay6 x1) (ix2 q l) = Ideal.ofBits .f32 (wordA (x1 (ix2 q l))) := by
  pointwise [k0_pay21, k0_pay20, k0_pay19, k0_pay6, wordA, half, off]

/-- The second scale factor of a block. -/
theorem pay22_apply (x1 : Vec Ideal S32x512 .i8) (q : Fin 32) (l : Fin 512) :
    k0_pay22 (F := Ideal) (k0_pay6 x1) (ix2 q l) = Ideal.ofBits .f32 (wordB (x1 (ix2 q l))) := by
  pointwise [k0_pay22, k0_pay20, k0_pay19, k0_pay6, wordB, half, off]

/-- The sum the body stores. -/
theorem pay5_apply (a : FVec Ideal S1024x512 .f32) (b d : Vec Ideal S1024x32 .bf16) (c e : Vec Ideal S32x512 .bf16)
    (r : Fin 1024) (l : Fin 512) : k0_pay5 (F := Ideal) a b c d e (ix2 r l)
      = a (ix2 r l) + (Ideal.ofBits .f32 1040187392#32 * ∑ x, b (ix2 r x) * c (ix2 x l)) * ∑ x, d (ix2 r x) * e (ix2 x l) := by
  pointwise [k0_pay5]

variable (x0 : Vec Ideal S1024x256 .i8) (x1 : Vec Ideal S32x512 .i8) (x2 x4 : Vec Ideal S1024x32 .bf16) (x3 x5 : Vec Ideal S32x512 .bf16)

/-- The decoded entries. -/
theorem pay69_apply (r : Fin 1024) (l : Fin 512) :
    k0_pay69 (F := Ideal) x0 x1 x2 x3 x4 x5 (ix2 r l) = dec x0 r l.val l.isLt := by
  unfold k0_pay69 k0_pay62 k0_pay63 k0_pay64 k0_pay65 k0_pay66 k0_pay67 k0_pay68 k0_pay61 k0_pay59 k0_pay62
  rw [View.ld_unit_lit _ _ (by decide)]
  exact decoded x0 r l.val l.isLt

/-- The first scale factors. -/
theorem pay70_apply (q : Fin 32) (l : Fin 512) :
    k0_pay70 (F := Ideal) x0 x1 x2 x3 x4 x5 (ix2 q l) = Ideal.ofBits .f32 (wordA (x1 (ix2 q l))) := by
  unfold k0_pay70 k0_pay60
  rw [View.ld_unit_lit _ _ (by decide)]
  exact pay21_apply x1 q l

/-- The second scale factors. -/
theorem pay71_apply (q : Fin 32) (l : Fin 512) :
    k0_pay71 (F := Ideal) x0 x1 x2 x3 x4 x5 (ix2 q l) = Ideal.ofBits .f32 (wordB (x1 (ix2 q l))) := by
  unfold k0_pay71 k0_pay60
  rw [View.ld_unit_lit _ _ (by decide)]
  exact pay22_apply x1 q l

/-- A row block's entry, with the code and the exponent byte it reads. -/
theorem scaled_val (q r : Fin 32) (R : Fin 1024) (hR : R.val = 32 * q.val + r.val) (l : Fin 512) :
    scaled (k0_pay69 (F := Ideal) x0 x1 x2 x3 x4 x5) (k0_pay70 (F := Ideal) x0 x1 x2 x3 x4 x5) (k0_pay71 (F := Ideal) x0 x1 x2 x3 x4 x5) q r l
      = ((val (nib (x0 (ix2 R ⟨l.val / 2, by omega⟩)) (decide (l.val % 2 = 0))) * (2 : ℝ) ^ (((x1 (ix2 q l)).toNat : ℤ) - 127) : ℝ) : EReal) := by
  unfold scaled
  rw [pay69_apply, pay70_apply, pay71_apply, show (⟨32 * q.val + r.val, by omega⟩ : Fin 1024) = R from Fin.ext hR.symm]
  exact kernel_val _ _

/-- THE BLOCK the body stores, entry by entry. -/
theorem out_entry (R : Fin 1024) (l : Fin 512) :
    out0_6 (F := Ideal) x0 x1 x2 x3 x4 x5 (ix2 R l)
      = entry (nib (x0 (ix2 R ⟨l.val / 2, by omega⟩)) (decide (l.val % 2 = 0))) (x1 (ix2 ⟨R.val / 32, by omega⟩ l))
          (fun x => x2 (ix2 R x)) (fun x => x3 (ix2 x l)) (fun x => x4 (ix2 R x)) (fun x => x5 (ix2 x l)) := by
  frame_out
  rw [pay5_apply]
  unfold entry
  refine congrArg (fun z : EReal => z + _) ?_
  refine (cat32 _ _ _ _ _ _ _ _ _ _ _ _ _ _ _ _ _ _ _ _ _ _ _ _ _ _ _ _ _ _ _ _
    (fun q r => scaled (k0_pay69 x0 x1 x2 x3 x4 x5) (k0_pay70 x0 x1 x2 x3 x4 x5) (k0_pay71 x0 x1 x2 x3 x4 x5) q r l) l
    (block0 (k0_pay60 x0 x1 x2 x3 x4 x5) (k0_pay62 x0 x1 x2 x3 x4 x5) (k0_pay66 x0 x1 x2 x3 x4 x5) (k0_pay67 x0 x1 x2 x3 x4 x5) (k0_pay63 x0 x1 x2 x3 x4 x5) (k0_pay64 x0 x1 x2 x3 x4 x5) (k0_pay65 x0 x1 x2 x3 x4 x5) (k0_pay68 x0 x1 x2 x3 x4 x5) l)
    (block1 (k0_pay60 x0 x1 x2 x3 x4 x5) (k0_pay62 x0 x1 x2 x3 x4 x5) (k0_pay66 x0 x1 x2 x3 x4 x5) (k0_pay67 x0 x1 x2 x3 x4 x5) (k0_pay63 x0 x1 x2 x3 x4 x5) (k0_pay64 x0 x1 x2 x3 x4 x5) (k0_pay65 x0 x1 x2 x3 x4 x5) (k0_pay68 x0 x1 x2 x3 x4 x5) l)
    (block2 (k0_pay60 x0 x1 x2 x3 x4 x5) (k0_pay62 x0 x1 x2 x3 x4 x5) (k0_pay66 x0 x1 x2 x3 x4 x5) (k0_pay67 x0 x1 x2 x3 x4 x5) (k0_pay63 x0 x1 x2 x3 x4 x5) (k0_pay64 x0 x1 x2 x3 x4 x5) (k0_pay65 x0 x1 x2 x3 x4 x5) (k0_pay68 x0 x1 x2 x3 x4 x5) l)
    (block3 (k0_pay69 x0 x1 x2 x3 x4 x5) (k0_pay70 x0 x1 x2 x3 x4 x5) (k0_pay71 x0 x1 x2 x3 x4 x5) l)
    (block4 (k0_pay69 x0 x1 x2 x3 x4 x5) (k0_pay70 x0 x1 x2 x3 x4 x5) (k0_pay71 x0 x1 x2 x3 x4 x5) l)
    (block5 (k0_pay69 x0 x1 x2 x3 x4 x5) (k0_pay70 x0 x1 x2 x3 x4 x5) (k0_pay71 x0 x1 x2 x3 x4 x5) l)
    (block6 (k0_pay69 x0 x1 x2 x3 x4 x5) (k0_pay70 x0 x1 x2 x3 x4 x5) (k0_pay71 x0 x1 x2 x3 x4 x5) l)
    (block7 (k0_pay69 x0 x1 x2 x3 x4 x5) (k0_pay70 x0 x1 x2 x3 x4 x5) (k0_pay71 x0 x1 x2 x3 x4 x5) l)
    (block8 (k0_pay69 x0 x1 x2 x3 x4 x5) (k0_pay70 x0 x1 x2 x3 x4 x5) (k0_pay71 x0 x1 x2 x3 x4 x5) l)
    (block9 (k0_pay69 x0 x1 x2 x3 x4 x5) (k0_pay70 x0 x1 x2 x3 x4 x5) (k0_pay71 x0 x1 x2 x3 x4 x5) l)
    (block10 (k0_pay69 x0 x1 x2 x3 x4 x5) (k0_pay70 x0 x1 x2 x3 x4 x5) (k0_pay71 x0 x1 x2 x3 x4 x5) l)
    (block11 (k0_pay69 x0 x1 x2 x3 x4 x5) (k0_pay70 x0 x1 x2 x3 x4 x5) (k0_pay71 x0 x1 x2 x3 x4 x5) l)
    (block12 (k0_pay69 x0 x1 x2 x3 x4 x5) (k0_pay70 x0 x1 x2 x3 x4 x5) (k0_pay71 x0 x1 x2 x3 x4 x5) l)
    (block13 (k0_pay69 x0 x1 x2 x3 x4 x5) (k0_pay70 x0 x1 x2 x3 x4 x5) (k0_pay71 x0 x1 x2 x3 x4 x5) l)
    (block14 (k0_pay69 x0 x1 x2 x3 x4 x5) (k0_pay70 x0 x1 x2 x3 x4 x5) (k0_pay71 x0 x1 x2 x3 x4 x5) l)
    (block15 (k0_pay69 x0 x1 x2 x3 x4 x5) (k0_pay70 x0 x1 x2 x3 x4 x5) (k0_pay71 x0 x1 x2 x3 x4 x5) l)
    (block16 (k0_pay69 x0 x1 x2 x3 x4 x5) (k0_pay70 x0 x1 x2 x3 x4 x5) (k0_pay71 x0 x1 x2 x3 x4 x5) l)
    (block17 (k0_pay69 x0 x1 x2 x3 x4 x5) (k0_pay70 x0 x1 x2 x3 x4 x5) (k0_pay71 x0 x1 x2 x3 x4 x5) l)
    (block18 (k0_pay69 x0 x1 x2 x3 x4 x5) (k0_pay70 x0 x1 x2 x3 x4 x5) (k0_pay71 x0 x1 x2 x3 x4 x5) l)
    (block19 (k0_pay69 x0 x1 x2 x3 x4 x5) (k0_pay70 x0 x1 x2 x3 x4 x5) (k0_pay71 x0 x1 x2 x3 x4 x5) l)
    (block20 (k0_pay69 x0 x1 x2 x3 x4 x5) (k0_pay70 x0 x1 x2 x3 x4 x5) (k0_pay71 x0 x1 x2 x3 x4 x5) l)
    (block21 (k0_pay69 x0 x1 x2 x3 x4 x5) (k0_pay70 x0 x1 x2 x3 x4 x5) (k0_pay71 x0 x1 x2 x3 x4 x5) l)
    (block22 (k0_pay69 x0 x1 x2 x3 x4 x5) (k0_pay70 x0 x1 x2 x3 x4 x5) (k0_pay71 x0 x1 x2 x3 x4 x5) l)
    (block23 (k0_pay69 x0 x1 x2 x3 x4 x5) (k0_pay70 x0 x1 x2 x3 x4 x5) (k0_pay71 x0 x1 x2 x3 x4 x5) l)
    (block24 (k0_pay69 x0 x1 x2 x3 x4 x5) (k0_pay70 x0 x1 x2 x3 x4 x5) (k0_pay71 x0 x1 x2 x3 x4 x5) l)
    (block25 (k0_pay69 x0 x1 x2 x3 x4 x5) (k0_pay70 x0 x1 x2 x3 x4 x5) (k0_pay71 x0 x1 x2 x3 x4 x5) l)
    (block26 (k0_pay69 x0 x1 x2 x3 x4 x5) (k0_pay70 x0 x1 x2 x3 x4 x5) (k0_pay71 x0 x1 x2 x3 x4 x5) l)
    (block27 (k0_pay69 x0 x1 x2 x3 x4 x5) (k0_pay70 x0 x1 x2 x3 x4 x5) (k0_pay71 x0 x1 x2 x3 x4 x5) l)
    (block28 (k0_pay69 x0 x1 x2 x3 x4 x5) (k0_pay70 x0 x1 x2 x3 x4 x5) (k0_pay71 x0 x1 x2 x3 x4 x5) l)
    (block29 (k0_pay69 x0 x1 x2 x3 x4 x5) (k0_pay70 x0 x1 x2 x3 x4 x5) (k0_pay71 x0 x1 x2 x3 x4 x5) l)
    (block30 (k0_pay69 x0 x1 x2 x3 x4 x5) (k0_pay70 x0 x1 x2 x3 x4 x5) (k0_pay71 x0 x1 x2 x3 x4 x5) l)
    (block31 (k0_pay69 x0 x1 x2 x3 x4 x5) (k0_pay70 x0 x1 x2 x3 x4 x5) (k0_pay71 x0 x1 x2 x3 x4 x5) l) R.val R.isLt).trans ?_
  exact scaled_val x0 x1 x2 x4 x3 x5 _ _ R (by dsimp only; omega) l

end Cert.KernelIdeal.Whole

end
-- ==== Proof.KI.WeightValue.lean ====
/- What the first call (the effective weight) leaves in its result, at the extended reals: entry by entry, the value of the
   code times two to its block's exponent, plus the scaled product of the two low-rank factors. -/
module

public import proofs.«01_k».proof.Proof.KI.WeightBlock

@[expose] public section

set_option maxRecDepth 16384

noncomputable section

namespace Cert.KernelIdeal.Whole

open Idealize.ShloMosaic Idealize.ShloMosaic.TcCoe Idealize.SL.Sem
open Cert.KernelIdeal.Gen Cert.Decode
open Idealize.ShloMosaic.Pipeline (Dat)

variable (V : (c : Dev nD) → (b : Ref sig .tc) → Buf (Elt Ideal) ((c : Thread nD τ).loc b))

/-- The whole weight: row `k`, column `n` reads the code byte `(k, n / 2)`, its low nibble if `n` is even, the exponent byte
    `(k / 32, n)`, row `k` of the two left factors and column `n` of the two right ones. -/
def weight (x0 : Vec Ideal S14336x2048 .i8) (x1 : Vec Ideal S448x4096 .i8) (x2 : Vec Ideal S14336x32 .bf16) (x3 : Vec Ideal S32x4096 .bf16)
    (x4 : Vec Ideal S14336x32 .bf16) (x5 : Vec Ideal S32x4096 .bf16) (i : S14336x4096.Idx) : EReal :=
  have h0 : (i 0).val < 14336 := (i 0).isLt
  have h1 : (i 1).val < 4096 := (i 1).isLt
  entry (nib (x0 (ix2 (i 0) ⟨(i 1).val / 2, by omega⟩)) (decide ((i 1).val % 2 = 0))) (x1 (ix2 ⟨(i 0).val / 32, by omega⟩ (i 1)))
    (fun x => x2 (ix2 (i 0) x)) (fun x => x3 (ix2 x (i 1))) (fun x => x4 (ix2 (i 0) x)) (fun x => x5 (ix2 x (i 1)))

/-- The blocks of a grid point: row block `t / 8`, column block `t % 8`. -/
theorem idx0 : ∀ t : Fin cfg0.N, win0_0.index t = ![t.val / 8, t.val % 8] ∧ win0_1.index t = ![t.val / 8, t.val % 8]
    ∧ win0_2.index t = ![t.val / 8, 0] ∧ win0_3.index t = ![0, t.val % 8] ∧ win0_4.index t = ![t.val / 8, 0]
    ∧ win0_5.index t = ![0, t.val % 8] ∧ win0_6.index t = ![t.val / 8, t.val % 8] :=
  (by decide +kernel : ∀ t : Fin grid0.N, _)

/-- Equal ingredients give equal entries. -/
theorem entry_congr {n n' : BitVec 4} {e e' : BitVec 8} {u1 u1' v1 v1' u2 u2' v2 v2' : Fin 32 → EReal} (hn : n = n') (he : e = e')
    (h1 : ∀ x, u1 x = u1' x) (h2 : ∀ x, v1 x = v1' x) (h3 : ∀ x, u2 x = u2' x) (h4 : ∀ x, v2 x = v2' x) :
    entry n e u1 v1 u2 v2 = entry n' e' u1' v1' u2' v2' := by
  rw [hn, he, funext h1, funext h2, funext h3, funext h4]

/-- The block entry by entry, at any index. -/
theorem out_entry_idx (x0 : Vec Ideal S1024x256 .i8) (x1 : Vec Ideal S32x512 .i8) (x2 : Vec Ideal S1024x32 .bf16)
    (x3 : Vec Ideal S32x512 .bf16) (x4 : Vec Ideal S1024x32 .bf16) (x5 : Vec Ideal S32x512 .bf16) (j : S1024x512.Idx)
    (a : Fin 256) (q : Fin 32) (ha : a.val = (j 1).val / 2) (hq : q.val = (j 0).val / 32) :
    out0_6 (F := Ideal) x0 x1 x2 x3 x4 x5 j
      = entry (nib (x0 (ix2 (j 0) a)) (decide ((j 1).val % 2 = 0))) (x1 (ix2 q (j 1)))
          (fun x => x2 (ix2 (j 0) x)) (fun x => x3 (ix2 x (j 1))) (fun x => x4 (ix2 (j 0) x)) (fun x => x5 (ix2 x (j 1))) := by
  have hj1 : (j 1).val < 512 := (j 1).isLt
  have hj0 : (j 0).val < 1024 := (j 0).isLt
  rw [show a = ⟨(j 1).val / 2, by omega⟩ from Fin.ext ha, show q = ⟨(j 0).val / 32, by omega⟩ from Fin.ext hq]
  have e : j = ix2 (j 0) (j 1) := by
    funext b
    match b with
    | ⟨0, _⟩ => rfl
    | ⟨1, _⟩ => rfl
  exact (congrArg (out0_6 (F := Ideal) x0 x1 x2 x3 x4 x5) e).trans (out_entry x0 x1 x2 x4 x3 x5 (j 0) (j 1))

/-- What is written back at a grid point is that block of the whole weight. -/
theorem flushed0_6 (c : Dev nD) (t : Fin cfg0.N) :
    (dat0 V c).flushed 6 t = ((cfg0.win 6).blk t).view.read (Elt Ideal)
      (weight (V c main_arg1) (V c main_arg2) (V c main_arg3) (V c main_arg4) (V c main_arg5) (V c main_arg6)) := by
  show (cfg0.win 6).cut (grid0.coords t) ((dat0 V c).after 6 t) = _
  rw [after0_6]
  have ht : t.val < 112 := lt_of_lt_of_eq t.isLt N_0
  obtain ⟨e0, e1, e2, e3, e4, e5, e6⟩ := idx0 t
  funext (y : S1024x512.Idx)
  have hy0 : (y 0).val < 1024 := (y 0).isLt
  have hy1 : (y 1).val < 512 := (y 1).isLt
  have k0 : ((((cfg0.win 6).blk t).view.emb y : S14336x4096.Idx) 0).val = t.val / 8 * 1024 + (y 0).val := by blk_simp [e6]
  have k1 : ((((cfg0.win 6).blk t).view.emb y : S14336x4096.Idx) 1).val = t.val % 8 * 512 + (y 1).val := by blk_simp [e6]
  show out0_6 (F := Ideal) (iblk0 V c 0 t) (iblk0 V c 1 t) (iblk0 V c 2 t) (iblk0 V c 3 t) (iblk0 V c 4 t) (iblk0 V c 5 t)
      ((cfg0.win 6).xinj (grid0.coords t) y)
    = weight (V c main_arg1) (V c main_arg2) (V c main_arg3) (V c main_arg4) (V c main_arg5) (V c main_arg6) (((cfg0.win 6).blk t).view.emb y)
  refine (out_entry_idx _ _ _ _ _ _ _ ⟨(y 1).val / 2, by omega⟩ ⟨(y 0).val / 32, by omega⟩ rfl rfl).trans ?_
  unfold weight
  refine entry_congr (congrArg₂ nib ?_ ?_) ?_ (fun x => ?_) (fun x => ?_) (fun x => ?_) (fun x => ?_)
  · blk_ext [iblk0, e0, e6]
  · exact decide_eq_decide.mpr (by rw [k1]; show (y 1).val % 2 = 0 ↔ _; omega)
  · blk_ext [iblk0, e1, e6]
  · blk_ext [iblk0, e2, e6]
  · blk_ext [iblk0, e3, e6]
  · blk_ext [iblk0, e4, e6]
  · blk_ext [iblk0, e5, e6]

/-- Every block is written at some point. -/
theorem onto0 : ∀ (q0 : Fin 14) (q1 : Fin 8), ∃ t : Fin cfg0.N, t.val / 8 = q0.val ∧ t.val % 8 = q1.val :=
  fun q0 q1 => ⟨⟨8 * q0.val + q1.val, lt_of_lt_of_eq (by omega) N_0.symm⟩, by dsimp only; omega, by dsimp only; omega⟩

/-- THE WEIGHT: every entry of the array the first call leaves. -/
theorem weight_final (c : Dev nD) : (dat0 V c).arrAt 6 cfg0.N
    = weight (V c main_arg1) (V c main_arg2) (V c main_arg3) (V c main_arg4) (V c main_arg5) (V c main_arg6) :=
  (dat0 V c).arrAt_eq_of_cover 6 _ (fun t _ => flushed0_6 V c t) (fun (i : S14336x4096.Idx) => by
    have hi0 : (i 0).val < 14336 := (i 0).isLt
    have hi1 : (i 1).val < 4096 := (i 1).isLt
    obtain ⟨t, h0, h1⟩ := onto0 ⟨(i 0).val / 1024, by omega⟩ ⟨(i 1).val / 512, by omega⟩
    refine ⟨t, flush0_6 t, ?_⟩
    show i ∈ ((View.whole main_v0).slice (win0_6.rect t)).set
    rw [View.set_slice_whole, Rect.mem_set_unit]
    obtain ⟨-, -, -, -, -, -, f⟩ := idx0 t
    have g0 : win0_6.index t (0 : Fin 2) = t.val / 8 := congrFun f 0
    have g1 : win0_6.index t (1 : Fin 2) = t.val % 8 := congrFun f 1
    dsimp only at h0 h1
    intro a
    match a with
    | ⟨0, _⟩ => show win0_6.index t (0 : Fin 2) * 1024 ≤ (i 0).val ∧ (i 0).val < win0_6.index t (0 : Fin 2) * 1024 + 1024; omega
    | ⟨1, _⟩ => show win0_6.index t (1 : Fin 2) * 512 ≤ (i 1).val ∧ (i 1).val < win0_6.index t (1 : Fin 2) * 512 + 512; omega)

end Cert.KernelIdeal.Whole

end
-- ==== Proof.KI.Result.lean ====
/- What the whole kernel leaves in its result, entry by entry, at the extended reals: the activations times the weight. -/
module

public import proofs.«01_k».proof.Proof.KI.Run
public import proofs.«01_k».proof.Proof.KI.MatValue
public import proofs.«01_k».proof.Proof.KI.WeightValue

@[expose] public section

set_option maxRecDepth 16384

noncomputable section

namespace Cert.KernelIdeal.Whole

open Idealize.ShloMosaic Idealize.ShloMosaic.TcCoe Idealize.SL.Sem
open Cert.KernelIdeal.Gen

/-- The activations with their two leading axes joined: row `b * 1280 + s` is row `(b, s)`. -/
theorem cast_in (x : FVec Ideal S6x1280x14336 .bf16) (b : Fin 6) (s : Fin 1280) (k : Fin 14336) :
    shapeCast S7680x14336 x shapeCasts_S6x1280x14336_S7680x14336 (ix2 ⟨b.val * 1280 + s.val, by omega⟩ k) = x (ix3 b s k) := by
  pointwise []

/-- The product with its rows split again. -/
theorem cast_out (y : FVec Ideal S7680x4096 .bf16) (b : Fin 6) (s : Fin 1280) (n : Fin 4096) :
    shapeCast S6x1280x4096 y shapeCasts_S7680x4096_S6x1280x4096 (ix3 b s n) = y (ix2 ⟨b.val * 1280 + s.val, by omega⟩ n) := by
  pointwise []

variable (m : (ℓ : Loc nD τ sig) → Buf (Elt Ideal) ℓ) (ρ : Dev nD → PrngReg)

/-- The first host stretch joins the activations' leading axes. -/
theorem W2_main_v1 (c : Dev nD) : W2 m ρ c (Proc.devRef .tc main_v1)
    = shapeCast S7680x14336 (m ((c.tc : Thread nD τ).loc main_arg0)) shapeCasts_S6x1280x14336_S7680x14336 := by
  have h : W2 m ρ c (Proc.devRef .tc main_v1)
      = shapeCast S7680x14336 (W1 m ρ c (Proc.devRef .tc main_arg0)) shapeCasts_S6x1280x14336_S7680x14336 := by
    unfold W2 hostOps1
    after_results
    rfl
  rw [h, W1_args m ρ c main_arg0 (by decide)]

/-- The last host stretch splits the product's rows. -/
theorem W4_main_v3 (c : Dev nD) : W4 m ρ c (Proc.devRef .tc main_v3)
    = shapeCast S6x1280x4096 (W3 m ρ c (Proc.devRef .tc main_v2)) shapeCasts_S7680x4096_S6x1280x4096 := by
  unfold W4 hostOps2
  after_results
  rfl

/-- The second call finds the weight that the first one left. -/
theorem W2_main_v0 (c : Dev nD) : W2 m ρ c (Proc.devRef .tc main_v0)
    = weight (m ((c.tc : Thread nD τ).loc main_arg1)) (m ((c.tc : Thread nD τ).loc main_arg2)) (m ((c.tc : Thread nD τ).loc main_arg3))
        (m ((c.tc : Thread nD τ).loc main_arg4)) (m ((c.tc : Thread nD τ).loc main_arg5)) (m ((c.tc : Thread nD τ).loc main_arg6)) :=
  (W2_of m ρ c main_v0 (by decide)).trans ((W1_arr m ρ c 6).trans (weight_final (V0 m ρ) c))

/-- The second call's result is the product. -/
theorem W3_main_v2 (c : Dev nD) : W3 m ρ c (Proc.devRef .tc main_v2)
    = prod1 (W2 m ρ c (Proc.devRef .tc main_v1)) (W2 m ρ c (Proc.devRef .tc main_v0)) :=
  (W3_arr m ρ c 2).trans (mat_final (V2 m ρ) c)

/-- The activations times the weight, at an entry. -/
def result (a0 : Vec Ideal S6x1280x14336 .bf16) (w : Vec Ideal S14336x4096 .bf16) (b : Fin 6) (s : Fin 1280) (n : Fin 4096) : EReal :=
  ∑ k : Fin 14336, a0 (ix3 b s k) * w (ix2 k n)

/-- The product of the joined activations, its rows split again, is that. -/
theorem cast_prod (a0 : Vec Ideal S6x1280x14336 .bf16) (w : Vec Ideal S14336x4096 .bf16) (b : Fin 6) (s : Fin 1280) (n : Fin 4096) :
    shapeCast (α := EReal) S6x1280x4096 (prod1 (shapeCast S7680x14336 a0 shapeCasts_S6x1280x14336_S7680x14336) w) shapeCasts_S7680x4096_S6x1280x4096 (ix3 b s n)
      = result a0 w b s n := by
  refine (cast_out _ b s n).trans ?_
  unfold prod1 result
  exact Finset.sum_congr rfl fun k _ => congrArg (fun z : EReal => z * w (ix2 k n)) (cast_in a0 b s k)

/-- THE RESULT of the kernel, entry by entry. -/
theorem result_entry (c : Dev nD) (b : Fin 6) (s : Fin 1280) (n : Fin 4096) :
    (W4 m ρ c (Proc.devRef .tc main_v3)) (ix3 b s n)
      = result (m ((c.tc : Thread nD τ).loc main_arg0))
        (weight (m ((c.tc : Thread nD τ).loc main_arg1)) (m ((c.tc : Thread nD τ).loc main_arg2)) (m ((c.tc : Thread nD τ).loc main_arg3))
            (m ((c.tc : Thread nD τ).loc main_arg4)) (m ((c.tc : Thread nD τ).loc main_arg5)) (m ((c.tc : Thread nD τ).loc main_arg6))) b s n := by
  rw [W4_main_v3, W3_main_v2, W2_main_v0, W2_main_v1]
  exact cast_prod _ _ b s n

end Cert.KernelIdeal.Whole

end
-- ==== Proof.RI.Weight.lean ====
/- The reference's effective weight, entry by entry, at the extended reals: its table of code values, its power of two and its
   two low-rank products come to the same entry as the kernel's. -/
module

public import proofs.«01_k».proof.Proof.Gen.ReferenceIdeal.Run
public import proofs.«01_k».proof.Proof.KI.WeightBlock
public import Idealize.ShloMosaic.Lib.Tactic.CleanTypes

@[expose] public section

set_option maxRecDepth 16384

noncomputable section

namespace Cert.ReferenceIdeal.Value

open Cert.ReferenceIdeal Cert.ReferenceIdeal.Gen Idealize.ShloMosaic Idealize.ShloMosaic.TcCoe
open Cert.Decode
open Cert.KernelIdeal.Whole (entry)

/-- A constant integer array. -/
abbrev cI (b : BitVec 32) : IVec S14336x2048 32 := broadcastInDim S14336x2048 ![] bcast_S_S14336x2048 (constantI S_ 32 b)
/-- A constant bf16 array. -/
abbrev cB (b : BitVec 16) : FVec Ideal S14336x2048 .bf16 := broadcastInDim S14336x2048 ![] bcast_S_S14336x2048 (constant S_ .bf16 b)

/-- The nibbles, shifted down by `sh`. -/
def nibs (sh : BitVec 32) (x : IVec S14336x2048 8) : IVec S14336x2048 32 := andi (Host.shrsi (extui 32 x natLt_8_32) (cI sh)) (cI 15#32)
/-- The table of magnitudes, by the three low bits. -/
def mags (n : IVec S14336x2048 32) : FVec Ideal S14336x2048 .bf16 :=
  select (cmpi .ne (andi n (cI 4#32)) (cI 0#32))
    (select (cmpi .ne (andi n (cI 2#32)) (cI 0#32))
      (select (cmpi .ne (andi n (cI 1#32)) (cI 0#32)) (cB 0x40C0#16) (cB 0x4080#16))
      (select (cmpi .ne (andi n (cI 1#32)) (cI 0#32)) (cB 0x4040#16) (cB 0x4000#16)))
    (select (cmpi .ne (andi n (cI 2#32)) (cI 0#32))
      (select (cmpi .ne (andi n (cI 1#32)) (cI 0#32)) (cB 0x3FC0#16) (cB 0x3F80#16))
      (select (cmpi .ne (andi n (cI 1#32)) (cI 0#32)) (cB 0x3F00#16) (cB 0x0000#16)))
/-- The decoded codes: the sign bit picks the negated magnitude. -/
def decs (n : IVec S14336x2048 32) : FVec Ideal S14336x2048 .bf16 :=
  select (cmpi .ne (andi n (cI 8#32)) (cI 0#32)) (Host.negf (mags n)) (mags n)
/-- The powers of two, one exponent byte for 32 rows. -/
def pows (x : IVec S448x2048 8) : FVec Ideal S14336x2048 .f32 :=
  Host.powf (broadcastInDim S14336x2048 ![] bcast_S_S14336x2048 (constant S_ .f32 0x40000000#32))
    (sitofp .f32 (shapeCast _ (broadcastInDim S448x32x2048 ![0, 2] bcast_S448x2048_S448x32x2048_0_2
      (subi (extui 32 x natLt_8_32) (broadcastInDim S448x2048 ![] bcast_S_S448x2048 (constantI S_ 32 127#32)))) shapeCasts_S448x32x2048_S14336x2048))
/-- The half weight of one column parity, from the decoded codes, the powers and the factors. -/
def half (d : FVec Ideal S14336x2048 .bf16) (p : FVec Ideal S14336x2048 .f32) (u1 : FVec Ideal S14336x32 .bf16) (v1 : FVec Ideal S32x2048 .bf16)
    (u2 : FVec Ideal S14336x32 .bf16) (v2 : FVec Ideal S32x2048 .bf16) : FVec Ideal S14336x2048 .bf16 :=
  truncf .bf16 (addf (extf .f32 (truncf .bf16 (mulf (extf .f32 d bitsLt_bf16_f32) p) bitsLt_bf16_f32) bitsLt_bf16_f32)
    (mulf (mulf (broadcastInDim S14336x2048 ![] bcast_S_S14336x2048 (constant S_ .f32 0x3E000000#32))
        (Host.dotGeneral dot_S14336x32_S32x2048_S14336x2048_1_0_0_1_n_n none u1 v1))
      (Host.dotGeneral dot_S14336x32_S32x2048_S14336x2048_1_0_0_1_n_n none u2 v2))) bitsLt_bf16_f32

/-- The table at one nibble word: the code's value. -/
def tab (n : BitVec 32) : EReal :=
  Scalar.select (IntOp.cmpi .ne (IntOp.andi n 4#32) 0#32)
    (Scalar.select (IntOp.cmpi .ne (IntOp.andi n 2#32) 0#32)
      (Scalar.select (IntOp.cmpi .ne (IntOp.andi n 1#32) 0#32) (Ideal.ofBits .bf16 0x40C0#16) (Ideal.ofBits .bf16 0x4080#16))
      (Scalar.select (IntOp.cmpi .ne (IntOp.andi n 1#32) 0#32) (Ideal.ofBits .bf16 0x4040#16) (Ideal.ofBits .bf16 0x4000#16)))
    (Scalar.select (IntOp.cmpi .ne (IntOp.andi n 2#32) 0#32)
      (Scalar.select (IntOp.cmpi .ne (IntOp.andi n 1#32) 0#32) (Ideal.ofBits .bf16 0x3FC0#16) (Ideal.ofBits .bf16 0x3F80#16))
      (Scalar.select (IntOp.cmpi .ne (IntOp.andi n 1#32) 0#32) (Ideal.ofBits .bf16 0x3F00#16) (Ideal.ofBits .bf16 0x0000#16)))

theorem nibs_apply (sh : BitVec 32) (x : IVec S14336x2048 8) (k : Fin 14336) (j : Fin 2048) :
    nibs sh x (ix2 k j) = IntOp.andi (IntOp.shrsi .host ((x (ix2 k j)).setWidth 32) sh) 15#32 := by
  pointwise [nibs]

theorem mags_apply (n : IVec S14336x2048 32) (k : Fin 14336) (j : Fin 2048) : mags n (ix2 k j) = tab (n (ix2 k j)) := by
  pointwise [mags, tab]

theorem decs_apply (n : IVec S14336x2048 32) (k : Fin 14336) (j : Fin 2048) : decs n (ix2 k j)
    = Scalar.select (IntOp.cmpi .ne (IntOp.andi (n (ix2 k j)) 8#32) 0#32) (-tab (n (ix2 k j))) (tab (n (ix2 k j))) := by
  pointwise [decs]
  rw [mags_apply]

theorem pows_apply (x : IVec S448x2048 8) (k : Fin 14336) (j : Fin 2048) : pows x (ix2 k j)
    = Ideal.pow (Ideal.ofBits .f32 0x40000000#32) (((IntOp.subi ((x (ix2 ⟨k.val / 32, by omega⟩ j)).setWidth 32) 127#32).toInt : ℝ) : EReal) := by
  pointwise [pows]
  rfl

theorem half_apply (d : FVec Ideal S14336x2048 .bf16) (p : FVec Ideal S14336x2048 .f32) (u1 : FVec Ideal S14336x32 .bf16) (v1 : FVec Ideal S32x2048 .bf16)
    (u2 : FVec Ideal S14336x32 .bf16) (v2 : FVec Ideal S32x2048 .bf16) (k : Fin 14336) (j : Fin 2048) :
    half d p u1 v1 u2 v2 (ix2 k j) = d (ix2 k j) * p (ix2 k j)
      + Ideal.ofBits .f32 0x3E000000#32 * (∑ x : Fin 32, u1 (ix2 k x) * v1 (ix2 x j)) * ∑ x : Fin 32, u2 (ix2 k x) * v2 (ix2 x j) := by
  pointwise [half]

/-- The table entry of a code, with its sign, is the code's value. -/
theorem tab_val (n : BitVec 4) : Scalar.select (IntOp.cmpi .ne (IntOp.andi (n.setWidth 32) 8#32) 0#32) (-tab (n.setWidth 32)) (tab (n.setWidth 32)) = (val n : EReal) := by
  obtain ⟨k⟩ := n
  have h (w : BitVec 16) : Ideal.ofBits .bf16 w = Ideal.ieee 8 7 w := rfl
  fin_cases k <;> (simp [tab, val, h, Scalar.select, IntOp.cmpi, IntOp.andi, Ideal.ieee]; try (first | norm_num; done | (norm_num; rw [← EReal.coe_mul]; norm_num)))

/-- The shift each column parity takes. -/
def down : Bool → BitVec 32
  | true => 0#32
  | false => 4#32

/-- The shifted and masked byte is its nibble. -/
theorem nib_byte : ∀ (k : Fin 256) (p : Bool), IntOp.andi (IntOp.shrsi .host ((BitVec.ofFin k : BitVec 8).setWidth 32) (down p)) 15#32
    = (nib (BitVec.ofFin k) p).setWidth 32 := by decide +kernel

/-- The exponent byte less its bias, as an integer. -/
theorem exp_byte : ∀ k : Fin 256, (IntOp.subi ((BitVec.ofFin k : BitVec 8).setWidth 32) 127#32).toInt = (k.val : ℤ) - 127 := by decide +kernel

/-- The power of two of an exponent byte. -/
theorem pow_byte (e : BitVec 8) : Ideal.pow (Ideal.ofBits .f32 0x40000000#32) (((IntOp.subi (e.setWidth 32) 127#32).toInt : ℝ) : EReal)
    = (((2 : ℝ) ^ ((e.toNat : ℤ) - 127) : ℝ) : EReal) := by
  rw [ofBits_pow 0x40000000#32 128 (by decide) (by decide) (by decide) (by decide) (by decide), exp_byte e.toFin, Ideal.pow_coe_coe]
  refine congrArg (fun r : ℝ => (r : EReal)) ?_
  rw [show ((2 : ℝ) ^ (((128 : ℕ) : ℤ) - 127)) = 2 by norm_num]
  exact Real.rpow_intCast 2 _

/-- THE HALF WEIGHT of one column parity, entry by entry. -/
theorem half_entry (p : Bool) (b : IVec S14336x2048 8) (e : IVec S448x2048 8) (u1 : FVec Ideal S14336x32 .bf16) (v1 : FVec Ideal S32x2048 .bf16)
    (u2 : FVec Ideal S14336x32 .bf16) (v2 : FVec Ideal S32x2048 .bf16) (k : Fin 14336) (j : Fin 2048) :
    half (decs (nibs (down p) b)) (pows e) u1 v1 u2 v2 (ix2 k j)
      = entry (nib (b (ix2 k j)) p) (e (ix2 ⟨k.val / 32, by omega⟩ j))
          (fun x => u1 (ix2 k x)) (fun x => v1 (ix2 x j)) (fun x => u2 (ix2 k x)) (fun x => v2 (ix2 x j)) := by
  rw [half_apply, decs_apply, nibs_apply, pows_apply, pow_byte]
  rw [show IntOp.andi (IntOp.shrsi .host ((b (ix2 k j)).setWidth 32) (down p)) 15#32 = (nib (b (ix2 k j)) p).setWidth 32 from
    nib_byte (b (ix2 k j)).toFin p, tab_val, ← EReal.coe_mul]
  rfl

end Cert.ReferenceIdeal.Value

end
-- ==== Proof.RI.Value.lean ====
/- The reference's result, entry by entry, at the extended reals: two products, of the even and of the odd columns of the
   weight, interleaved along the columns. -/
module

public import proofs.«01_k».proof.Proof.RI.Weight
public import proofs.«01_k».proof.Proof.KI.WeightValue

@[expose] public section

set_option maxRecDepth 16384

noncomputable section

namespace Cert.ReferenceIdeal.Value

open Cert.ReferenceIdeal Cert.ReferenceIdeal.Gen Idealize.ShloMosaic Idealize.ShloMosaic.TcCoe
open Cert.Decode
open Cert.KernelIdeal.Whole (entry weight entry_congr)

/-- The columns of the last two axes laid side by side: column `n` is entry `n % 2` of pair `n / 2`. -/
theorem cast_apply (y : FVec Ideal S6x1280x2048x2 .f32) (b : Fin 6) (s : Fin 1280) (n : Fin 4096) :
    shapeCast S6x1280x4096 y shapeCasts_S6x1280x2048x2_S6x1280x4096 (ix3 b s n)
      = y (ix4 b s ⟨n.val / 2, by omega⟩ ⟨n.val % 2, by omega⟩) := by
  pointwise []

/-- Two arrays joined along a last axis of extent two. -/
theorem join_apply (y0 y1 : FVec Ideal S6x1280x2048x1 .f32) (b : Fin 6) (s : Fin 1280) (j : Fin 2048) (f : Fin 2) :
    concatenate S6x1280x2048x2 3 [⟨S6x1280x2048x1, y0⟩, ⟨S6x1280x2048x1, y1⟩] concatenates_S6x1280x2048x1_S6x1280x2048x1_S6x1280x2048x2_d3 (ix4 b s j f)
      = if f.val = 0 then y0 (ix4 b s j 0) else y1 (ix4 b s j 0) := by
  pointwise []
  match f with
  | ⟨0, _⟩ => rfl
  | ⟨1, _⟩ => rfl

/-- One product, with a last axis of extent one. -/
theorem prod_apply (x : FVec Ideal S6x1280x14336 .bf16) (w : FVec Ideal S14336x2048 .bf16) (b : Fin 6) (s : Fin 1280) (j : Fin 2048) :
    broadcastInDim S6x1280x2048x1 ![0, 1, 2] bcast_S6x1280x2048_S6x1280x2048x1_0_1_2
        (Host.dotGeneral dot_S6x1280x14336_S14336x2048_S6x1280x2048_2_0_01_1_n_n none x w : FVec Ideal S6x1280x2048 .f32) (ix4 b s j 0)
      = ∑ k : Fin 14336, x (ix3 b s k) * w (ix2 k j) := by
  pointwise []

/-- The final rounding is the identity at the extended reals. -/
theorem trunc_id (y : FVec Ideal S6x1280x4096 .f32) (j : S6x1280x4096.Idx) : truncf .bf16 y bitsLt_bf16_f32 j = y j := by
  pointwise []

/-- Two products with their columns interleaved. -/
def stack (x : FVec Ideal S6x1280x14336 .bf16) (w0 w1 : FVec Ideal S14336x2048 .bf16) : FVec Ideal S6x1280x4096 .bf16 :=
  truncf .bf16 (shapeCast _ (concatenate S6x1280x2048x2 3
      [⟨S6x1280x2048x1, broadcastInDim S6x1280x2048x1 ![0, 1, 2] bcast_S6x1280x2048_S6x1280x2048x1_0_1_2
        (Host.dotGeneral (φ₁ := .bf16) (φ₂ := .bf16) dot_S6x1280x14336_S14336x2048_S6x1280x2048_2_0_01_1_n_n none x w0 : FVec Ideal S6x1280x2048 .f32)⟩,
       ⟨S6x1280x2048x1, broadcastInDim S6x1280x2048x1 ![0, 1, 2] bcast_S6x1280x2048_S6x1280x2048x1_0_1_2
        (Host.dotGeneral (φ₁ := .bf16) (φ₂ := .bf16) dot_S6x1280x14336_S14336x2048_S6x1280x2048_2_0_01_1_n_n none x w1 : FVec Ideal S6x1280x2048 .f32)⟩]
      concatenates_S6x1280x2048x1_S6x1280x2048x1_S6x1280x2048x2_d3) shapeCasts_S6x1280x2048x2_S6x1280x4096) bitsLt_bf16_f32

/-- Two products with their columns interleaved, read at an entry: column `n` comes from the product of its parity. -/
theorem stack_apply (x : FVec Ideal S6x1280x14336 .bf16) (w0 w1 : FVec Ideal S14336x2048 .bf16) (b : Fin 6) (s : Fin 1280) (n : Fin 4096) :
    stack x w0 w1 (ix3 b s n) = if n.val % 2 = 0 then ∑ k : Fin 14336, x (ix3 b s k) * w0 (ix2 k ⟨n.val / 2, by omega⟩)
      else ∑ k : Fin 14336, x (ix3 b s k) * w1 (ix2 k ⟨n.val / 2, by omega⟩) := by
  unfold stack
  refine (trunc_id _ _).trans ((cast_apply _ b s n).trans ((join_apply _ _ b s _ _).trans ?_))
  rw [prod_apply, prod_apply]

/-- The half weight of the even columns. -/
def half0 (a1 : IVec S14336x2048 8) (a2 : IVec S448x4096 8) (a3 : FVec Ideal S14336x32 .bf16) (a4 : FVec Ideal S32x4096 .bf16)
    (a5 : FVec Ideal S14336x32 .bf16) (a6 : FVec Ideal S32x4096 .bf16) : FVec Ideal S14336x2048 .bf16 :=
  half (decs (nibs 0#32 a1)) (pows (Host.slice S448x2048 ![0, 0] ![1, 2] a2 slicesBy_S448x4096_S448x2048_0s1_0s2))
    a3 (Host.slice S32x2048 ![0, 0] ![1, 2] a4 slicesBy_S32x4096_S32x2048_0s1_0s2)
    a5 (Host.slice S32x2048 ![0, 0] ![1, 2] a6 slicesBy_S32x4096_S32x2048_0s1_0s2)

/-- The half weight of the odd columns. -/
def half1 (a1 : IVec S14336x2048 8) (a2 : IVec S448x4096 8) (a3 : FVec Ideal S14336x32 .bf16) (a4 : FVec Ideal S32x4096 .bf16)
    (a5 : FVec Ideal S14336x32 .bf16) (a6 : FVec Ideal S32x4096 .bf16) : FVec Ideal S14336x2048 .bf16 :=
  half (decs (nibs 4#32 a1)) (pows (Host.slice S448x2048 ![0, 1] ![1, 2] a2 slicesBy_S448x4096_S448x2048_0s1_1s2))
    a3 (Host.slice S32x2048 ![0, 1] ![1, 2] a4 slicesBy_S32x4096_S32x2048_0s1_1s2)
    a5 (Host.slice S32x2048 ![0, 1] ![1, 2] a6 slicesBy_S32x4096_S32x2048_0s1_1s2)

/-- The result is the interleaved products of the activations with the two half weights. -/
theorem res_eq (m : (ℓ : Loc nD τ sig) → Buf (Elt Ideal) ℓ) (c : Dev nD) : res_main_v110 m c
    = stack (m ((c.tc : Thread nD τ).loc main_arg0))
      (half0 (m ((c.tc : Thread nD τ).loc main_arg1)) (m ((c.tc : Thread nD τ).loc main_arg2)) (m ((c.tc : Thread nD τ).loc main_arg3))
        (m ((c.tc : Thread nD τ).loc main_arg4)) (m ((c.tc : Thread nD τ).loc main_arg5)) (m ((c.tc : Thread nD τ).loc main_arg6)))
      (half1 (m ((c.tc : Thread nD τ).loc main_arg1)) (m ((c.tc : Thread nD τ).loc main_arg2)) (m ((c.tc : Thread nD τ).loc main_arg3))
        (m ((c.tc : Thread nD τ).loc main_arg4)) (m ((c.tc : Thread nD τ).loc main_arg5)) (m ((c.tc : Thread nD τ).loc main_arg6))) := rfl

/-- Every second column of the exponents, from a first one. -/
theorem slice_exp0 (a : IVec S448x4096 8) (q : Fin 448) (j : Fin 2048) :
    Host.slice S448x2048 ![0, 0] ![1, 2] a slicesBy_S448x4096_S448x2048_0s1_0s2 (ix2 q j) = a (ix2 q ⟨2 * j.val, by omega⟩) := by
  pointwise []
theorem slice_exp1 (a : IVec S448x4096 8) (q : Fin 448) (j : Fin 2048) :
    Host.slice S448x2048 ![0, 1] ![1, 2] a slicesBy_S448x4096_S448x2048_0s1_1s2 (ix2 q j) = a (ix2 q ⟨1 + 2 * j.val, by omega⟩) := by
  pointwise []
theorem slice_fac0 (a : FVec Ideal S32x4096 .bf16) (q : Fin 32) (j : Fin 2048) :
    Host.slice S32x2048 ![0, 0] ![1, 2] a slicesBy_S32x4096_S32x2048_0s1_0s2 (ix2 q j) = a (ix2 q ⟨2 * j.val, by omega⟩) := by
  pointwise []
theorem slice_fac1 (a : FVec Ideal S32x4096 .bf16) (q : Fin 32) (j : Fin 2048) :
    Host.slice S32x2048 ![0, 1] ![1, 2] a slicesBy_S32x4096_S32x2048_0s1_1s2 (ix2 q j) = a (ix2 q ⟨1 + 2 * j.val, by omega⟩) := by
  pointwise []

/-- The half weight of the column's parity is the whole weight's column. -/
theorem half0_entry (a1 : IVec S14336x2048 8) (a2 : IVec S448x4096 8) (a3 : FVec Ideal S14336x32 .bf16) (a4 : FVec Ideal S32x4096 .bf16)
    (a5 : FVec Ideal S14336x32 .bf16) (a6 : FVec Ideal S32x4096 .bf16) (k : Fin 14336) (n : Fin 4096) (h : n.val % 2 = 0) :
    half0 a1 a2 a3 a4 a5 a6 (ix2 k ⟨n.val / 2, by omega⟩) = weight a1 a2 a3 a4 a5 a6 (ix2 k n) := by
  have e : (⟨2 * (n.val / 2), by omega⟩ : Fin 4096) = n := Fin.ext (by dsimp only; omega)
  refine (half_entry true a1 _ _ _ _ _ k ⟨n.val / 2, by omega⟩).trans (entry_congr ?_ ?_ (fun x => rfl) (fun x => ?_) (fun x => rfl) (fun x => ?_))
  · exact congrArg (nib (a1 (ix2 k ⟨n.val / 2, by omega⟩))) (decide_eq_true h).symm
  · exact (slice_exp0 a2 _ _).trans (congrArg (fun z => a2 (ix2 (⟨k.val / 32, by omega⟩ : Fin 448) z)) e)
  · exact (slice_fac0 a4 _ _).trans (congrArg (fun z => a4 (ix2 x z)) e)
  · exact (slice_fac0 a6 _ _).trans (congrArg (fun z => a6 (ix2 x z)) e)

theorem half1_entry (a1 : IVec S14336x2048 8) (a2 : IVec S448x4096 8) (a3 : FVec Ideal S14336x32 .bf16) (a4 : FVec Ideal S32x4096 .bf16)
    (a5 : FVec Ideal S14336x32 .bf16) (a6 : FVec Ideal S32x4096 .bf16) (k : Fin 14336) (n : Fin 4096) (h : ¬ n.val % 2 = 0) :
    half1 a1 a2 a3 a4 a5 a6 (ix2 k ⟨n.val / 2, by omega⟩) = weight a1 a2 a3 a4 a5 a6 (ix2 k n) := by
  have e : (⟨1 + 2 * (n.val / 2), by omega⟩ : Fin 4096) = n := Fin.ext (by dsimp only; omega)
  refine (half_entry false a1 _ _ _ _ _ k ⟨n.val / 2, by omega⟩).trans (entry_congr ?_ ?_ (fun x => rfl) (fun x => ?_) (fun x => rfl) (fun x => ?_))
  · exact congrArg (nib (a1 (ix2 k ⟨n.val / 2, by omega⟩))) (decide_eq_false h).symm
  · exact (slice_exp1 a2 _ _).trans (congrArg (fun z => a2 (ix2 (⟨k.val / 32, by omega⟩ : Fin 448) z)) e)
  · exact (slice_fac1 a4 _ _).trans (congrArg (fun z => a4 (ix2 x z)) e)
  · exact (slice_fac1 a6 _ _).trans (congrArg (fun z => a6 (ix2 x z)) e)

/-- THE RESULT of the reference, entry by entry: the activations times the whole weight. -/
theorem stack_entry (x : FVec Ideal S6x1280x14336 .bf16) (a1 : IVec S14336x2048 8) (a2 : IVec S448x4096 8) (a3 : FVec Ideal S14336x32 .bf16)
    (a4 : FVec Ideal S32x4096 .bf16) (a5 : FVec Ideal S14336x32 .bf16) (a6 : FVec Ideal S32x4096 .bf16) (b : Fin 6) (s : Fin 1280) (n : Fin 4096) :
    stack x (half0 a1 a2 a3 a4 a5 a6) (half1 a1 a2 a3 a4 a5 a6) (ix3 b s n)
      = ∑ k : Fin 14336, x (ix3 b s k) * weight a1 a2 a3 a4 a5 a6 (ix2 k n) := by
  rw [stack_apply]
  split
  case isTrue h => exact Finset.sum_congr rfl fun k _ => congrArg (x (ix3 b s k) * ·) (half0_entry a1 a2 a3 a4 a5 a6 k n h)
  case isFalse h => exact Finset.sum_congr rfl fun k _ => congrArg (x (ix3 b s k) * ·) (half1_entry a1 a2 a3 a4 a5 a6 k n h)

end Cert.ReferenceIdeal.Value

end
-- ==== Proof.lean ====
module

public import proofs.«01_k».proof.Defs
public import proofs.«01_k».proof.Proof.K.Run
public import proofs.«01_k».proof.Proof.KI.Result
public import proofs.«01_k».proof.Proof.RI.Value
public import Idealize.ShloMosaic.Adequacy
public import Idealize.ShloMosaic.Init
public import Idealize.ShloMosaic.Lib.Quiescent

@[expose] public section

noncomputable section

namespace Cert.Proof

open Idealize.ShloMosaic Idealize.SL.Sem

/-- The reference runs to its end, leaves its arguments as launched and every counter at zero. -/
theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- From memories that agree on the arguments, the kernel's result and the reference's are equal. -/
theorem result_eq (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    Cert.ReferenceIdeal.Value.res_main_v110 m' c = Cert.KernelIdeal.Whole.W4 m g c (Proc.devRef .tc Cert.KernelIdeal.main_v3) := by
  rw [Cert.ReferenceIdeal.Value.res_eq, h0, h1, h2, h3, h4, h5, h6]
  funext (i : Cert.ReferenceIdeal.S6x1280x4096.Idx)
  have e : i = ix3 (i 0) (i 1) (i 2) := by
    funext b
    match b with
    | ⟨0, _⟩ => rfl
    | ⟨1, _⟩ => rfl
    | ⟨2, _⟩ => rfl
  rw [e]
  exact (Cert.ReferenceIdeal.Value.stack_entry _ _ _ _ _ _ _ (i 0) (i 1) (i 2)).trans
    (Cert.KernelIdeal.Whole.result_entry m g c (i 0) (i 1) (i 2)).symm

/-- The value claim: at the extended reals the kernel computes the reference's result. -/
theorem algebraic_KernelIdeal_ReferenceIdeal : algebraic_KernelIdeal_ReferenceIdeal := by
  intro m g m' g' _ hagree
  refine ⟨fun c => Cert.KernelIdeal.Whole.W4 m g c (Proc.devRef .tc Cert.KernelIdeal.main_v3),
    (θ_run _ _ _).mono (fun _ h c => h.1 c) (Cert.KernelIdeal.Whole.runW m g), ?_⟩
  refine (θ_run Cert.ReferenceIdeal.defs _ _).mono (fun _ h c => ⟨?_, (h c).2⟩) (Cert.ReferenceIdeal.Value.run (F := Ideal) m' g')
  obtain ⟨h0, h1, h2, h3, h4, h5, h6⟩ := hagree c
  exact (h c).1.trans (result_eq m g m' c h0 h1 h2 h3 h4 h5 h6)

/-- The certificate. -/
theorem claim : Cert.Claim := ⟨Cert.Kernel.Gen.facts, Cert.KernelIdeal.Gen.facts, Cert.ReferenceIdeal.Gen.facts,
  fun m ρ _ => Cert.Kernel.Whole.frame m ρ, fun m ρ _ => Cert.KernelIdeal.Whole.frame m ρ, quiescent_ReferenceIdeal,
  (trivial : preserves_Kernel_KernelIdeal), algebraic_KernelIdeal_ReferenceIdeal⟩

end Cert.Proof

end
